-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x2048x15360 : Shape := ⟨3, ![8, 2048, 15360]⟩
abbrev S8x256x15360 : Shape := ⟨3, ![8, 256, 15360]⟩
abbrev S8x15x31 : Shape := ⟨3, ![8, 15, 31]⟩
abbrev S_ : Shape := ⟨0, ![]⟩

class Facts : Prop where
  bitsLt_bf16_f32 : FTy.bits .bf16 < FTy.bits .f32
  bcast_S_S8x256x15360 : S_.BroadcastsInDim S8x256x15360 (![] : Fin 0 → Fin S8x256x15360.rank)

variable [Facts]

def fn {F : FTy → Type} [FloatOps F] (main_arg0 : FVec F S8x2048x15360 .bf16) (main_arg1 : FVec F S8x256x15360 .bf16) (main_arg2 : FVec F S8x15x31 .f32) : IVec S8x256x15360 1 :=
  let main_v0 : FVec F S8x256x15360 .f32 := (extf .f32 · bitsLt_bf16_f32) main_arg1
  let main_v1 : FVec F S8x256x15360 .f32 := Host.absf main_v0
  let main_cst : FVec F S_ .f32 := constant S_ .f32 0x7F800000#32
  let main_v2 : FVec F S8x256x15360 .f32 := broadcastInDim S8x256x15360 ![] bcast_S_S8x256x15360 main_cst
  let main_v3 : IVec S8x256x15360 1 := cmpf .olt main_v1 main_v2
  main_v3
-- ==== Kernel.lean ====
abbrev S8x2048x15360 : Shape := ⟨3, ![8, 2048, 15360]⟩
abbrev S8x256x15360 : Shape := ⟨3, ![8, 256, 15360]⟩
abbrev S8x15x31 : Shape := ⟨3, ![8, 15, 31]⟩
abbrev S_ : Shape := ⟨0, ![]⟩
abbrev S8x16x128 : Shape := ⟨3, ![8, 16, 128]⟩
abbrev S8x2048x1024 : Shape := ⟨3, ![8, 2048, 1024]⟩
abbrev S8x256x1024 : Shape := ⟨3, ![8, 256, 1024]⟩
abbrev S1x2048x256 : Shape := ⟨3, ![1, 2048, 256]⟩
abbrev S1x256x256 : Shape := ⟨3, ![1, 256, 256]⟩
abbrev S2x16x128 : Shape := ⟨3, ![2, 16, 128]⟩
abbrev S2x8x64x512 : Shape := ⟨4, ![2, 8, 64, 512]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S2048x256 : Shape := ⟨2, ![2048, 256]⟩
abbrev S1x512x128 : Shape := ⟨3, ![1, 512, 128]⟩
abbrev S512x128 : Shape := ⟨2, ![512, 128]⟩
abbrev S64x512 : Shape := ⟨2, ![64, 512]⟩
abbrev S1x1x64x512 : Shape := ⟨4, ![1, 1, 64, 512]⟩
abbrev S64x256 : Shape := ⟨2, ![64, 256]⟩
abbrev S64 : Shape := ⟨1, ![64]⟩
abbrev S64x1 : Shape := ⟨2, ![64, 1]⟩
abbrev S1x64x128 : Shape := ⟨3, ![1, 64, 128]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 19
  | .smem => 0
  | _ => 0

abbrev bufTy : (tb : Table) → Fin (tcTables nBuf tb) → BufTy
  | .hbm, ⟨0, _⟩ => ⟨S8x2048x15360, .bf16⟩
  | .hbm, ⟨1, _⟩ => ⟨S8x256x15360, .bf16⟩
  | .hbm, ⟨2, _⟩ => ⟨S8x15x31, .f32⟩
  | .hbm, ⟨3, _⟩ => ⟨S_, .i32⟩
  | .hbm, ⟨4, _⟩ => ⟨S_, .f32⟩
  | .hbm, ⟨5, _⟩ => ⟨S8x16x128, .f32⟩
  | .hbm, ⟨6, _⟩ => ⟨S8x2048x1024, .bf16⟩
  | .hbm, ⟨7, _⟩ => ⟨S8x256x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S2x16x128, .f32⟩
  | .local _ .vmem, ⟨11, _⟩ => ⟨S2x16x128, .f32⟩
  | .local _ .vmem, ⟨12, _⟩ => ⟨S1x256x256, .bf16⟩
  | .local _ .vmem, ⟨13, _⟩ => ⟨S1x256x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x256x256, .bf16⟩
  | .local _ .vmem, ⟨17, _⟩ => ⟨S1x256x256, .bf16⟩
  | .local _ .vmem, ⟨18, _⟩ => ⟨S2x8x64x512, .f32⟩
  | _, _ => ⟨S8x2048x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 : BitVec 32 :=
  let c0_i32_6 : BitVec 32 := 0#32
  let c2048_i32 : BitVec 32 := 2048#32
  let v7 : BitVec 32 := Scalar.muli c0_i32_6 c2048_i32
  v7
def k0_off1 : Fin 3 → Nat :=
  let c0_7 : Index := 0#32
  let c0_i32_6 : BitVec 32 := 0#32
  let c2048_i32 : BitVec 32 := 2048#32
  let v7 : BitVec 32 := Scalar.muli c0_i32_6 c2048_i32
  let v8 : BitVec 32 := v7
  let v9 : Index := Scalar.indexCast v8
  let c0_8 : Index := 0#32
  ![0, v9.toNat, 0]
def k0_mult2 : BitVec 32 :=
  let c24_i32 : BitVec 32 := 24#32
  let c0_i32_11 : BitVec 32 := 0#32
  let c0_i32_6 : BitVec 32 := 0#32
  let c32_i32 : BitVec 32 := 32#32
  let v15 : BitVec 32 := Scalar.muli c0_i32_6 c32_i32
  let c0_i32_10 : BitVec 32 := 0#32
  let v16 : BitVec 32 := Scalar.addi v15 c0_i32_10
  let c4_i32 : BitVec 32 := 4#32
  let v17 : BitVec 32 := Scalar.subi v16 c4_i32
  let v18 : BitVec 32 := Scalar.maxsi c0_i32_11 v17
  let v19 : BitVec 32 := Scalar.minsi c24_i32 v18
  let c64_i32 : BitVec 32 := 64#32
  let v20 : BitVec 32 := Scalar.muli v19 c64_i32
  v20
def k0_off2 (c0_i32_10 : BitVec 32) : Fin 3 → Nat :=
  let c0_12 : Index := 0#32
  let c24_i32 : BitVec 32 := 24#32
  let c0_i32_11 : BitVec 32 := 0#32
  let c0_i32_6 : BitVec 32 := 0#32
  let c32_i32 : BitVec 32 := 32#32
  let v15 : BitVec 32 := Scalar.muli c0_i32_6 c32_i32
  let v16 : BitVec 32 := Scalar.addi v15 c0_i32_10
  let c4_i32 : BitVec 32 := 4#32
  let v17 : BitVec 32 := Scalar.subi v16 c4_i32
  let v18 : BitVec 32 := Scalar.maxsi c0_i32_11 v17
  let v19 : BitVec 32 := Scalar.minsi c24_i32 v18
  let c64_i32 : BitVec 32 := 64#32
  let v20 : BitVec 32 := Scalar.muli v19 c64_i32
  let v21 : BitVec 32 := v20
  let v23 : Index := Scalar.indexCast v21
  let c0_13 : Index := 0#32
  ![0, v23.toNat, 0]
def k0_off3 (c0_i32_10 : BitVec 32) : Fin 4 → Nat :=
  let c0_16 : Index := 0#32
  let c0_i32_6 : BitVec 32 := 0#32
  let c32_i32 : BitVec 32 := 32#32
  let v15 : BitVec 32 := Scalar.muli c0_i32_6 c32_i32
  let v16 : BitVec 32 := Scalar.addi v15 c0_i32_10
  let c24_i32 : BitVec 32 := 24#32
  let c0_i32_11 : BitVec 32 := 0#32
  let c4_i32 : BitVec 32 := 4#32
  let v17 : BitVec 32 := Scalar.subi v16 c4_i32
  let v18 : BitVec 32 := Scalar.maxsi c0_i32_11 v17
  let v19 : BitVec 32 := Scalar.minsi c24_i32 v18
  let v29 : BitVec 32 := Scalar.subi v16 v19
  let v30 : Index := Scalar.indexCast v29
  let c0_17 : Index := 0#32
  let c0_18 : Index := 0#32
  ![0, v30.toNat, 0, 0]
def k0_mult3 : BitVec 32 :=
  let c24_i32_22 : BitVec 32 := 24#32
  let c0_i32_21 : BitVec 32 := 0#32
  let c0_i32_6 : BitVec 32 := 0#32
  let c32_i32_19 : BitVec 32 := 32#32
  let v35 : BitVec 32 := Scalar.muli c0_i32_6 c32_i32_19
  let c1_i32 : BitVec 32 := 1#32
  let v36 : BitVec 32 := Scalar.addi v35 c1_i32
  let c4_i32_20 : BitVec 32 := 4#32
  let v37 : BitVec 32 := Scalar.subi v36 c4_i32_20
  let v38 : BitVec 32 := Scalar.maxsi c0_i32_21 v37
  let v39 : BitVec 32 := Scalar.minsi c24_i32_22 v38
  let c64_i32_23 : BitVec 32 := 64#32
  let v40 : BitVec 32 := Scalar.muli v39 c64_i32_23
  v40
def k0_mult4 : BitVec 32 :=
  let c24_i32_34 : BitVec 32 := 24#32
  let c0_i32_33 : BitVec 32 := 0#32
  let c0_i32_6 : BitVec 32 := 0#32
  let c32_i32_31 : BitVec 32 := 32#32
  let v55 : BitVec 32 := Scalar.muli c0_i32_6 c32_i32_31
  let c2_i32 : BitVec 32 := 2#32
  let v56 : BitVec 32 := Scalar.addi v55 c2_i32
  let c4_i32_32 : BitVec 32 := 4#32
  let v57 : BitVec 32 := Scalar.subi v56 c4_i32_32
  let v58 : BitVec 32 := Scalar.maxsi c0_i32_33 v57
  let v59 : BitVec 32 := Scalar.minsi c24_i32_34 v58
  let c64_i32_35 : BitVec 32 := 64#32
  let v60 : BitVec 32 := Scalar.muli v59 c64_i32_35
  v60
def k0_mult5 : BitVec 32 :=
  let c24_i32_46 : BitVec 32 := 24#32
  let c0_i32_45 : BitVec 32 := 0#32
  let c0_i32_6 : BitVec 32 := 0#32
  let c32_i32_43 : BitVec 32 := 32#32
  let v75 : BitVec 32 := Scalar.muli c0_i32_6 c32_i32_43
  let c3_i32 : BitVec 32 := 3#32
  let v76 : BitVec 32 := Scalar.addi v75 c3_i32
  let c4_i32_44 : BitVec 32 := 4#32
  let v77 : BitVec 32 := Scalar.subi v76 c4_i32_44
  let v78 : BitVec 32 := Scalar.maxsi c0_i32_45 v77
  let v79 : BitVec 32 := Scalar.minsi c24_i32_46 v78
  let c64_i32_47 : BitVec 32 := 64#32
  let v80 : BitVec 32 := Scalar.muli v79 c64_i32_47
  v80
def k0_mult6 : BitVec 32 :=
  let c24_i32_59 : BitVec 32 := 24#32
  let c0_i32_58 : BitVec 32 := 0#32
  let c0_i32_6 : BitVec 32 := 0#32
  let c32_i32_55 : BitVec 32 := 32#32
  let v95 : BitVec 32 := Scalar.muli c0_i32_6 c32_i32_55
  let c4_i32_56 : BitVec 32 := 4#32
  let v96 : BitVec 32 := Scalar.addi v95 c4_i32_56
  let c4_i32_57 : BitVec 32 := 4#32
  let v97 : BitVec 32 := Scalar.subi v96 c4_i32_57
  let v98 : BitVec 32 := Scalar.maxsi c0_i32_58 v97
  let v99 : BitVec 32 := Scalar.minsi c24_i32_59 v98
  let c64_i32_60 : BitVec 32 := 64#32
  let v100 : BitVec 32 := Scalar.muli v99 c64_i32_60
  v100
def k0_mult7 : BitVec 32 :=
  let c24_i32_71 : BitVec 32 := 24#32
  let c0_i32_70 : BitVec 32 := 0#32
  let c0_i32_6 : BitVec 32 := 0#32
  let c32_i32_68 : BitVec 32 := 32#32
  let v115 : BitVec 32 := Scalar.muli c0_i32_6 c32_i32_68
  let c5_i32 : BitVec 32 := 5#32
  let v116 : BitVec 32 := Scalar.addi v115 c5_i32
  let c4_i32_69 : BitVec 32 := 4#32
  let v117 : BitVec 32 := Scalar.subi v116 c4_i32_69
  let v118 : BitVec 32 := Scalar.maxsi c0_i32_70 v117
  let v119 : BitVec 32 := Scalar.minsi c24_i32_71 v118
  let c64_i32_72 : BitVec 32 := 64#32
  let v120 : BitVec 32 := Scalar.muli v119 c64_i32_72
  v120
def k0_mult8 : BitVec 32 :=
  let c24_i32_83 : BitVec 32 := 24#32
  let c0_i32_82 : BitVec 32 := 0#32
  let c0_i32_6 : BitVec 32 := 0#32
  let c32_i32_80 : BitVec 32 := 32#32
  let v135 : BitVec 32 := Scalar.muli c0_i32_6 c32_i32_80
  let c6_i32 : BitVec 32 := 6#32
  let v136 : BitVec 32 := Scalar.addi v135 c6_i32
  let c4_i32_81 : BitVec 32 := 4#32
  let v137 : BitVec 32 := Scalar.subi v136 c4_i32_81
  let v138 : BitVec 32 := Scalar.maxsi c0_i32_82 v137
  let v139 : BitVec 32 := Scalar.minsi c24_i32_83 v138
  let c64_i32_84 : BitVec 32 := 64#32
  let v140 : BitVec 32 := Scalar.muli v139 c64_i32_84
  v140
def k0_mult9 : BitVec 32 :=
  let c24_i32_95 : BitVec 32 := 24#32
  let c0_i32_94 : BitVec 32 := 0#32
  let c0_i32_6 : BitVec 32 := 0#32
  let c32_i32_92 : BitVec 32 := 32#32
  let v155 : BitVec 32 := Scalar.muli c0_i32_6 c32_i32_92
  let c7_i32 : BitVec 32 := 7#32
  let v156 : BitVec 32 := Scalar.addi v155 c7_i32
  let c4_i32_93 : BitVec 32 := 4#32
  let v157 : BitVec 32 := Scalar.subi v156 c4_i32_93
  let v158 : BitVec 32 := Scalar.maxsi c0_i32_94 v157
  let v159 : BitVec 32 := Scalar.minsi c24_i32_95 v158
  let c64_i32_96 : BitVec 32 := 64#32
  let v160 : BitVec 32 := Scalar.muli v159 c64_i32_96
  v160
def k0_mult10 : BitVec 32 :=
  let c24_i32_107 : BitVec 32 := 24#32
  let c0_i32_106 : BitVec 32 := 0#32
  let c0_i32_6 : BitVec 32 := 0#32
  let c32_i32_104 : BitVec 32 := 32#32
  let v175 : BitVec 32 := Scalar.muli c0_i32_6 c32_i32_104
  let c8_i32 : BitVec 32 := 8#32
  let v176 : BitVec 32 := Scalar.addi v175 c8_i32
  let c4_i32_105 : BitVec 32 := 4#32
  let v177 : BitVec 32 := Scalar.subi v176 c4_i32_105
  let v178 : BitVec 32 := Scalar.maxsi c0_i32_106 v177
  let v179 : BitVec 32 := Scalar.minsi c24_i32_107 v178
  let c64_i32_108 : BitVec 32 := 64#32
  let v180 : BitVec 32 := Scalar.muli v179 c64_i32_108
  v180
def k0_mult11 : BitVec 32 :=
  let c24_i32_119 : BitVec 32 := 24#32
  let c0_i32_118 : BitVec 32 := 0#32
  let c0_i32_6 : BitVec 32 := 0#32
  let c32_i32_116 : BitVec 32 := 32#32
  let v195 : BitVec 32 := Scalar.muli c0_i32_6 c32_i32_116
  let c9_i32 : BitVec 32 := 9#32
  let v196 : BitVec 32 := Scalar.addi v195 c9_i32
  let c4_i32_117 : BitVec 32 := 4#32
  let v197 : BitVec 32 := Scalar.subi v196 c4_i32_117
  let v198 : BitVec 32 := Scalar.maxsi c0_i32_118 v197
  let v199 : BitVec 32 := Scalar.minsi c24_i32_119 v198
  let c64_i32_120 : BitVec 32 := 64#32
  let v200 : BitVec 32 := Scalar.muli v199 c64_i32_120
  v200
def k0_mult12 : BitVec 32 :=
  let c24_i32_131 : BitVec 32 := 24#32
  let c0_i32_130 : BitVec 32 := 0#32
  let c0_i32_6 : BitVec 32 := 0#32
  let c32_i32_128 : BitVec 32 := 32#32
  let v215 : BitVec 32 := Scalar.muli c0_i32_6 c32_i32_128
  let c10_i32 : BitVec 32 := 10#32
  let v216 : BitVec 32 := Scalar.addi v215 c10_i32
  let c4_i32_129 : BitVec 32 := 4#32
  let v217 : BitVec 32 := Scalar.subi v216 c4_i32_129
  let v218 : BitVec 32 := Scalar.maxsi c0_i32_130 v217
  let v219 : BitVec 32 := Scalar.minsi c24_i32_131 v218
  let c64_i32_132 : BitVec 32 := 64#32
  let v220 : BitVec 32 := Scalar.muli v219 c64_i32_132
  v220
def k0_mult13 : BitVec 32 :=
  let c24_i32_143 : BitVec 32 := 24#32
  let c0_i32_142 : BitVec 32 := 0#32
  let c0_i32_6 : BitVec 32 := 0#32
  let c32_i32_140 : BitVec 32 := 32#32
  let v235 : BitVec 32 := Scalar.muli c0_i32_6 c32_i32_140
  let c11_i32 : BitVec 32 := 11#32
  let v236 : BitVec 32 := Scalar.addi v235 c11_i32
  let c4_i32_141 : BitVec 32 := 4#32
  let v237 : BitVec 32 := Scalar.subi v236 c4_i32_141
  let v238 : BitVec 32 := Scalar.maxsi c0_i32_142 v237
  let v239 : BitVec 32 := Scalar.minsi c24_i32_143 v238
  let c64_i32_144 : BitVec 32 := 64#32
  let v240 : BitVec 32 := Scalar.muli v239 c64_i32_144
  v240
def k0_mult14 : BitVec 32 :=
  let c24_i32_155 : BitVec 32 := 24#32
  let c0_i32_154 : BitVec 32 := 0#32
  let c0_i32_6 : BitVec 32 := 0#32
  let c32_i32_152 : BitVec 32 := 32#32
  let v255 : BitVec 32 := Scalar.muli c0_i32_6 c32_i32_152
  let c12_i32 : BitVec 32 := 12#32
  let v256 : BitVec 32 := Scalar.addi v255 c12_i32
  let c4_i32_153 : BitVec 32 := 4#32
  let v257 : BitVec 32 := Scalar.subi v256 c4_i32_153
  let v258 : BitVec 32 := Scalar.maxsi c0_i32_154 v257
  let v259 : BitVec 32 := Scalar.minsi c24_i32_155 v258
  let c64_i32_156 : BitVec 32 := 64#32
  let v260 : BitVec 32 := Scalar.muli v259 c64_i32_156
  v260
def k0_mult15 : BitVec 32 :=
  let c24_i32_167 : BitVec 32 := 24#32
  let c0_i32_166 : BitVec 32 := 0#32
  let c0_i32_6 : BitVec 32 := 0#32
  let c32_i32_164 : BitVec 32 := 32#32
  let v275 : BitVec 32 := Scalar.muli c0_i32_6 c32_i32_164
  let c13_i32 : BitVec 32 := 13#32
  let v276 : BitVec 32 := Scalar.addi v275 c13_i32
  let c4_i32_165 : BitVec 32 := 4#32
  let v277 : BitVec 32 := Scalar.subi v276 c4_i32_165
  let v278 : BitVec 32 := Scalar.maxsi c0_i32_166 v277
  let v279 : BitVec 32 := Scalar.minsi c24_i32_167 v278
  let c64_i32_168 : BitVec 32 := 64#32
  let v280 : BitVec 32 := Scalar.muli v279 c64_i32_168
  v280
def k0_mult16 : BitVec 32 :=
  let c24_i32_179 : BitVec 32 := 24#32
  let c0_i32_178 : BitVec 32 := 0#32
  let c0_i32_6 : BitVec 32 := 0#32
  let c32_i32_176 : BitVec 32 := 32#32
  let v295 : BitVec 32 := Scalar.muli c0_i32_6 c32_i32_176
  let c14_i32 : BitVec 32 := 14#32
  let v296 : BitVec 32 := Scalar.addi v295 c14_i32
  let c4_i32_177 : BitVec 32 := 4#32
  let v297 : BitVec 32 := Scalar.subi v296 c4_i32_177
  let v298 : BitVec 32 := Scalar.maxsi c0_i32_178 v297
  let v299 : BitVec 32 := Scalar.minsi c24_i32_179 v298
  let c64_i32_180 : BitVec 32 := 64#32
  let v300 : BitVec 32 := Scalar.muli v299 c64_i32_180
  v300
def k0_mult17 : BitVec 32 :=
  let c24_i32_191 : BitVec 32 := 24#32
  let c0_i32_190 : BitVec 32 := 0#32
  let c0_i32_6 : BitVec 32 := 0#32
  let c32_i32_188 : BitVec 32 := 32#32
  let v315 : BitVec 32 := Scalar.muli c0_i32_6 c32_i32_188
  let c15_i32 : BitVec 32 := 15#32
  let v316 : BitVec 32 := Scalar.addi v315 c15_i32
  let c4_i32_189 : BitVec 32 := 4#32
  let v317 : BitVec 32 := Scalar.subi v316 c4_i32_189
  let v318 : BitVec 32 := Scalar.maxsi c0_i32_190 v317
  let v319 : BitVec 32 := Scalar.minsi c24_i32_191 v318
  let c64_i32_192 : BitVec 32 := 64#32
  let v320 : BitVec 32 := Scalar.muli v319 c64_i32_192
  v320
def k0_mult18 : BitVec 32 :=
  let c24_i32_203 : BitVec 32 := 24#32
  let c0_i32_202 : BitVec 32 := 0#32
  let c0_i32_6 : BitVec 32 := 0#32
  let c32_i32_200 : BitVec 32 := 32#32
  let v335 : BitVec 32 := Scalar.muli c0_i32_6 c32_i32_200
  let c16_i32 : BitVec 32 := 16#32
  let v336 : BitVec 32 := Scalar.addi v335 c16_i32
  let c4_i32_201 : BitVec 32 := 4#32
  let v337 : BitVec 32 := Scalar.subi v336 c4_i32_201
  let v338 : BitVec 32 := Scalar.maxsi c0_i32_202 v337
  let v339 : BitVec 32 := Scalar.minsi c24_i32_203 v338
  let c64_i32_204 : BitVec 32 := 64#32
  let v340 : BitVec 32 := Scalar.muli v339 c64_i32_204
  v340
def k0_mult19 : BitVec 32 :=
  let c24_i32_215 : BitVec 32 := 24#32
  let c0_i32_214 : BitVec 32 := 0#32
  let c0_i32_6 : BitVec 32 := 0#32
  let c32_i32_212 : BitVec 32 := 32#32
  let v355 : BitVec 32 := Scalar.muli c0_i32_6 c32_i32_212
  let c17_i32 : BitVec 32 := 17#32
  let v356 : BitVec 32 := Scalar.addi v355 c17_i32
  let c4_i32_213 : BitVec 32 := 4#32
  let v357 : BitVec 32 := Scalar.subi v356 c4_i32_213
  let v358 : BitVec 32 := Scalar.maxsi c0_i32_214 v357
  let v359 : BitVec 32 := Scalar.minsi c24_i32_215 v358
  let c64_i32_216 : BitVec 32 := 64#32
  let v360 : BitVec 32 := Scalar.muli v359 c64_i32_216
  v360
def k0_mult20 : BitVec 32 :=
  let c24_i32_227 : BitVec 32 := 24#32
  let c0_i32_226 : BitVec 32 := 0#32
  let c0_i32_6 : BitVec 32 := 0#32
  let c32_i32_224 : BitVec 32 := 32#32
  let v375 : BitVec 32 := Scalar.muli c0_i32_6 c32_i32_224
  let c18_i32 : BitVec 32 := 18#32
  let v376 : BitVec 32 := Scalar.addi v375 c18_i32
  let c4_i32_225 : BitVec 32 := 4#32
  let v377 : BitVec 32 := Scalar.subi v376 c4_i32_225
  let v378 : BitVec 32 := Scalar.maxsi c0_i32_226 v377
  let v379 : BitVec 32 := Scalar.minsi c24_i32_227 v378
  let c64_i32_228 : BitVec 32 := 64#32
  let v380 : BitVec 32 := Scalar.muli v379 c64_i32_228
  v380
def k0_mult21 : BitVec 32 :=
  let c24_i32_239 : BitVec 32 := 24#32
  let c0_i32_238 : BitVec 32 := 0#32
  let c0_i32_6 : BitVec 32 := 0#32
  let c32_i32_236 : BitVec 32 := 32#32
  let v395 : BitVec 32 := Scalar.muli c0_i32_6 c32_i32_236
  let c19_i32 : BitVec 32 := 19#32
  let v396 : BitVec 32 := Scalar.addi v395 c19_i32
  let c4_i32_237 : BitVec 32 := 4#32
  let v397 : BitVec 32 := Scalar.subi v396 c4_i32_237
  let v398 : BitVec 32 := Scalar.maxsi c0_i32_238 v397
  let v399 : BitVec 32 := Scalar.minsi c24_i32_239 v398
  let c64_i32_240 : BitVec 32 := 64#32
  let v400 : BitVec 32 := Scalar.muli v399 c64_i32_240
  v400
def k0_mult22 : BitVec 32 :=
  let c24_i32_251 : BitVec 32 := 24#32
  let c0_i32_250 : BitVec 32 := 0#32
  let c0_i32_6 : BitVec 32 := 0#32
  let c32_i32_248 : BitVec 32 := 32#32
  let v415 : BitVec 32 := Scalar.muli c0_i32_6 c32_i32_248
  let c20_i32 : BitVec 32 := 20#32
  let v416 : BitVec 32 := Scalar.addi v415 c20_i32
  let c4_i32_249 : BitVec 32 := 4#32
  let v417 : BitVec 32 := Scalar.subi v416 c4_i32_249
  let v418 : BitVec 32 := Scalar.maxsi c0_i32_250 v417
  let v419 : BitVec 32 := Scalar.minsi c24_i32_251 v418
  let c64_i32_252 : BitVec 32 := 64#32
  let v420 : BitVec 32 := Scalar.muli v419 c64_i32_252
  v420
def k0_mult23 : BitVec 32 :=
  let c24_i32_263 : BitVec 32 := 24#32
  let c0_i32_262 : BitVec 32 := 0#32
  let c0_i32_6 : BitVec 32 := 0#32
  let c32_i32_260 : BitVec 32 := 32#32
  let v435 : BitVec 32 := Scalar.muli c0_i32_6 c32_i32_260
  let c21_i32 : BitVec 32 := 21#32
  let v436 : BitVec 32 := Scalar.addi v435 c21_i32
  let c4_i32_261 : BitVec 32 := 4#32
  let v437 : BitVec 32 := Scalar.subi v436 c4_i32_261
  let v438 : BitVec 32 := Scalar.maxsi c0_i32_262 v437
  let v439 : BitVec 32 := Scalar.minsi c24_i32_263 v438
  let c64_i32_264 : BitVec 32 := 64#32
  let v440 : BitVec 32 := Scalar.muli v439 c64_i32_264
  v440
def k0_mult24 : BitVec 32 :=
  let c24_i32_275 : BitVec 32 := 24#32
  let c0_i32_274 : BitVec 32 := 0#32
  let c0_i32_6 : BitVec 32 := 0#32
  let c32_i32_272 : BitVec 32 := 32#32
  let v455 : BitVec 32 := Scalar.muli c0_i32_6 c32_i32_272
  let c22_i32 : BitVec 32 := 22#32
  let v456 : BitVec 32 := Scalar.addi v455 c22_i32
  let c4_i32_273 : BitVec 32 := 4#32
  let v457 : BitVec 32 := Scalar.subi v456 c4_i32_273
  let v458 : BitVec 32 := Scalar.maxsi c0_i32_274 v457
  let v459 : BitVec 32 := Scalar.minsi c24_i32_275 v458
  let c64_i32_276 : BitVec 32 := 64#32
  let v460 : BitVec 32 := Scalar.muli v459 c64_i32_276
  v460
def k0_mult25 : BitVec 32 :=
  let c24_i32_287 : BitVec 32 := 24#32
  let c0_i32_286 : BitVec 32 := 0#32
  let c0_i32_6 : BitVec 32 := 0#32
  let c32_i32_284 : BitVec 32 := 32#32
  let v475 : BitVec 32 := Scalar.muli c0_i32_6 c32_i32_284
  let c23_i32 : BitVec 32 := 23#32
  let v476 : BitVec 32 := Scalar.addi v475 c23_i32
  let c4_i32_285 : BitVec 32 := 4#32
  let v477 : BitVec 32 := Scalar.subi v476 c4_i32_285
  let v478 : BitVec 32 := Scalar.maxsi c0_i32_286 v477
  let v479 : BitVec 32 := Scalar.minsi c24_i32_287 v478
  let c64_i32_288 : BitVec 32 := 64#32
  let v480 : BitVec 32 := Scalar.muli v479 c64_i32_288
  v480
def k0_mult26 : BitVec 32 :=
  let c24_i32_300 : BitVec 32 := 24#32
  let c0_i32_299 : BitVec 32 := 0#32
  let c0_i32_6 : BitVec 32 := 0#32
  let c32_i32_296 : BitVec 32 := 32#32
  let v495 : BitVec 32 := Scalar.muli c0_i32_6 c32_i32_296
  let c24_i32_297 : BitVec 32 := 24#32
  let v496 : BitVec 32 := Scalar.addi v495 c24_i32_297
  let c4_i32_298 : BitVec 32 := 4#32
  let v497 : BitVec 32 := Scalar.subi v496 c4_i32_298
  let v498 : BitVec 32 := Scalar.maxsi c0_i32_299 v497
  let v499 : BitVec 32 := Scalar.minsi c24_i32_300 v498
  let c64_i32_301 : BitVec 32 := 64#32
  let v500 : BitVec 32 := Scalar.muli v499 c64_i32_301
  v500
def k0_mult27 : BitVec 32 :=
  let c24_i32_312 : BitVec 32 := 24#32
  let c0_i32_311 : BitVec 32 := 0#32
  let c0_i32_6 : BitVec 32 := 0#32
  let c32_i32_309 : BitVec 32 := 32#32
  let v515 : BitVec 32 := Scalar.muli c0_i32_6 c32_i32_309
  let c25_i32 : BitVec 32 := 25#32
  let v516 : BitVec 32 := Scalar.addi v515 c25_i32
  let c4_i32_310 : BitVec 32 := 4#32
  let v517 : BitVec 32 := Scalar.subi v516 c4_i32_310
  let v518 : BitVec 32 := Scalar.maxsi c0_i32_311 v517
  let v519 : BitVec 32 := Scalar.minsi c24_i32_312 v518
  let c64_i32_313 : BitVec 32 := 64#32
  let v520 : BitVec 32 := Scalar.muli v519 c64_i32_313
  v520
def k0_mult28 : BitVec 32 :=
  let c24_i32_324 : BitVec 32 := 24#32
  let c0_i32_323 : BitVec 32 := 0#32
  let c0_i32_6 : BitVec 32 := 0#32
  let c32_i32_321 : BitVec 32 := 32#32
  let v535 : BitVec 32 := Scalar.muli c0_i32_6 c32_i32_321
  let c26_i32 : BitVec 32 := 26#32
  let v536 : BitVec 32 := Scalar.addi v535 c26_i32
  let c4_i32_322 : BitVec 32 := 4#32
  let v537 : BitVec 32 := Scalar.subi v536 c4_i32_322
  let v538 : BitVec 32 := Scalar.maxsi c0_i32_323 v537
  let v539 : BitVec 32 := Scalar.minsi c24_i32_324 v538
  let c64_i32_325 : BitVec 32 := 64#32
  let v540 : BitVec 32 := Scalar.muli v539 c64_i32_325
  v540
def k0_mult29 : BitVec 32 :=
  let c24_i32_336 : BitVec 32 := 24#32
  let c0_i32_335 : BitVec 32 := 0#32
  let c0_i32_6 : BitVec 32 := 0#32
  let c32_i32_333 : BitVec 32 := 32#32
  let v555 : BitVec 32 := Scalar.muli c0_i32_6 c32_i32_333
  let c27_i32 : BitVec 32 := 27#32
  let v556 : BitVec 32 := Scalar.addi v555 c27_i32
  let c4_i32_334 : BitVec 32 := 4#32
  let v557 : BitVec 32 := Scalar.subi v556 c4_i32_334
  let v558 : BitVec 32 := Scalar.maxsi c0_i32_335 v557
  let v559 : BitVec 32 := Scalar.minsi c24_i32_336 v558
  let c64_i32_337 : BitVec 32 := 64#32
  let v560 : BitVec 32 := Scalar.muli v559 c64_i32_337
  v560
def k0_mult30 : BitVec 32 :=
  let c24_i32_348 : BitVec 32 := 24#32
  let c0_i32_347 : BitVec 32 := 0#32
  let c0_i32_6 : BitVec 32 := 0#32
  let c32_i32_345 : BitVec 32 := 32#32
  let v575 : BitVec 32 := Scalar.muli c0_i32_6 c32_i32_345
  let c28_i32 : BitVec 32 := 28#32
  let v576 : BitVec 32 := Scalar.addi v575 c28_i32
  let c4_i32_346 : BitVec 32 := 4#32
  let v577 : BitVec 32 := Scalar.subi v576 c4_i32_346
  let v578 : BitVec 32 := Scalar.maxsi c0_i32_347 v577
  let v579 : BitVec 32 := Scalar.minsi c24_i32_348 v578
  let c64_i32_349 : BitVec 32 := 64#32
  let v580 : BitVec 32 := Scalar.muli v579 c64_i32_349
  v580
def k0_mult31 : BitVec 32 :=
  let c24_i32_360 : BitVec 32 := 24#32
  let c0_i32_359 : BitVec 32 := 0#32
  let c0_i32_6 : BitVec 32 := 0#32
  let c32_i32_357 : BitVec 32 := 32#32
  let v595 : BitVec 32 := Scalar.muli c0_i32_6 c32_i32_357
  let c29_i32 : BitVec 32 := 29#32
  let v596 : BitVec 32 := Scalar.addi v595 c29_i32
  let c4_i32_358 : BitVec 32 := 4#32
  let v597 : BitVec 32 := Scalar.subi v596 c4_i32_358
  let v598 : BitVec 32 := Scalar.maxsi c0_i32_359 v597
  let v599 : BitVec 32 := Scalar.minsi c24_i32_360 v598
  let c64_i32_361 : BitVec 32 := 64#32
  let v600 : BitVec 32 := Scalar.muli v599 c64_i32_361
  v600
def k0_mult32 : BitVec 32 :=
  let c24_i32_372 : BitVec 32 := 24#32
  let c0_i32_371 : BitVec 32 := 0#32
  let c0_i32_6 : BitVec 32 := 0#32
  let c32_i32_369 : BitVec 32 := 32#32
  let v615 : BitVec 32 := Scalar.muli c0_i32_6 c32_i32_369
  let c30_i32 : BitVec 32 := 30#32
  let v616 : BitVec 32 := Scalar.addi v615 c30_i32
  let c4_i32_370 : BitVec 32 := 4#32
  let v617 : BitVec 32 := Scalar.subi v616 c4_i32_370
  let v618 : BitVec 32 := Scalar.maxsi c0_i32_371 v617
  let v619 : BitVec 32 := Scalar.minsi c24_i32_372 v618
  let c64_i32_373 : BitVec 32 := 64#32
  let v620 : BitVec 32 := Scalar.muli v619 c64_i32_373
  v620
def k0_mult33 : BitVec 32 :=
  let c24_i32_384 : BitVec 32 := 24#32
  let c0_i32_383 : BitVec 32 := 0#32
  let c0_i32_6 : BitVec 32 := 0#32
  let c32_i32_381 : BitVec 32 := 32#32
  let v635 : BitVec 32 := Scalar.muli c0_i32_6 c32_i32_381
  let c31_i32 : BitVec 32 := 31#32
  let v636 : BitVec 32 := Scalar.addi v635 c31_i32
  let c4_i32_382 : BitVec 32 := 4#32
  let v637 : BitVec 32 := Scalar.subi v636 c4_i32_382
  let v638 : BitVec 32 := Scalar.maxsi c0_i32_383 v637
  let v639 : BitVec 32 := Scalar.minsi c24_i32_384 v638
  let c64_i32_385 : BitVec 32 := 64#32
  let v640 : BitVec 32 := Scalar.muli v639 c64_i32_385
  v640
def k0_off4 (c0_i32_461 : BitVec 32) : Fin 3 → Nat :=
  let c0_462 : Index := 0#32
  let c0_i32_6 : BitVec 32 := 0#32
  let c2048_i32 : BitVec 32 := 2048#32
  let v7 : BitVec 32 := Scalar.muli c0_i32_6 c2048_i32
  let v8 : BitVec 32 := v7
  let v1754 : BitVec 32 := Scalar.addi v8 c0_i32_461
  let v1755 : Index := Scalar.indexCast v1754
  let c0_463 : Index := 0#32
  ![0, v1755.toNat, 0]
def k0_mult34 : BitVec 32 :=
  let c0_i32_637 : BitVec 32 := 0#32
  let c2048_i32_638 : BitVec 32 := 2048#32
  let v2217 : BitVec 32 := Scalar.muli c0_i32_637 c2048_i32_638
  v2217
def k0_off5 : Fin 3 → Nat :=
  let c0_639 : Index := 0#32
  let c0_i32_637 : BitVec 32 := 0#32
  let c2048_i32_638 : BitVec 32 := 2048#32
  let v2217 : BitVec 32 := Scalar.muli c0_i32_637 c2048_i32_638
  let v2218 : BitVec 32 := v2217
  let v2219 : Index := Scalar.indexCast v2218
  let c128_640 : Index := 128#32
  ![0, v2219.toNat, 128]
def k0_mult35 : BitVec 32 :=
  let c24_i32_647 : BitVec 32 := 24#32
  let c0_i32_646 : BitVec 32 := 0#32
  let c0_i32_637 : BitVec 32 := 0#32
  let c32_i32_643 : BitVec 32 := 32#32
  let v2225 : BitVec 32 := Scalar.muli c0_i32_637 c32_i32_643
  let c0_i32_644 : BitVec 32 := 0#32
  let v2226 : BitVec 32 := Scalar.addi v2225 c0_i32_644
  let c4_i32_645 : BitVec 32 := 4#32
  let v2227 : BitVec 32 := Scalar.subi v2226 c4_i32_645
  let v2228 : BitVec 32 := Scalar.maxsi c0_i32_646 v2227
  let v2229 : BitVec 32 := Scalar.minsi c24_i32_647 v2228
  let c64_i32_648 : BitVec 32 := 64#32
  let v2230 : BitVec 32 := Scalar.muli v2229 c64_i32_648
  v2230
def k0_off6 (c0_i32_644 : BitVec 32) : Fin 3 → Nat :=
  let c0_649 : Index := 0#32
  let c24_i32_647 : BitVec 32 := 24#32
  let c0_i32_646 : BitVec 32 := 0#32
  let c0_i32_637 : BitVec 32 := 0#32
  let c32_i32_643 : BitVec 32 := 32#32
  let v2225 : BitVec 32 := Scalar.muli c0_i32_637 c32_i32_643
  let v2226 : BitVec 32 := Scalar.addi v2225 c0_i32_644
  let c4_i32_645 : BitVec 32 := 4#32
  let v2227 : BitVec 32 := Scalar.subi v2226 c4_i32_645
  let v2228 : BitVec 32 := Scalar.maxsi c0_i32_646 v2227
  let v2229 : BitVec 32 := Scalar.minsi c24_i32_647 v2228
  let c64_i32_648 : BitVec 32 := 64#32
  let v2230 : BitVec 32 := Scalar.muli v2229 c64_i32_648
  let v2231 : BitVec 32 := v2230
  let v2233 : Index := Scalar.indexCast v2231
  let c128_650 : Index := 128#32
  ![0, v2233.toNat, 128]
def k0_off7 (c0_i32_644 : BitVec 32) : Fin 4 → Nat :=
  let c1 : Index := 1#32
  let c0_i32_637 : BitVec 32 := 0#32
  let c32_i32_643 : BitVec 32 := 32#32
  let v2225 : BitVec 32 := Scalar.muli c0_i32_637 c32_i32_643
  let v2226 : BitVec 32 := Scalar.addi v2225 c0_i32_644
  let c24_i32_647 : BitVec 32 := 24#32
  let c0_i32_646 : BitVec 32 := 0#32
  let c4_i32_645 : BitVec 32 := 4#32
  let v2227 : BitVec 32 := Scalar.subi v2226 c4_i32_645
  let v2228 : BitVec 32 := Scalar.maxsi c0_i32_646 v2227
  let v2229 : BitVec 32 := Scalar.minsi c24_i32_647 v2228
  let v2239 : BitVec 32 := Scalar.subi v2226 v2229
  let v2240 : Index := Scalar.indexCast v2239
  let c0_653 : Index := 0#32
  let c0_654 : Index := 0#32
  ![1, v2240.toNat, 0, 0]
def k0_mult36 : BitVec 32 :=
  let c24_i32_659 : BitVec 32 := 24#32
  let c0_i32_658 : BitVec 32 := 0#32
  let c0_i32_637 : BitVec 32 := 0#32
  let c32_i32_655 : BitVec 32 := 32#32
  let v2245 : BitVec 32 := Scalar.muli c0_i32_637 c32_i32_655
  let c1_i32_656 : BitVec 32 := 1#32
  let v2246 : BitVec 32 := Scalar.addi v2245 c1_i32_656
  let c4_i32_657 : BitVec 32 := 4#32
  let v2247 : BitVec 32 := Scalar.subi v2246 c4_i32_657
  let v2248 : BitVec 32 := Scalar.maxsi c0_i32_658 v2247
  let v2249 : BitVec 32 := Scalar.minsi c24_i32_659 v2248
  let c64_i32_660 : BitVec 32 := 64#32
  let v2250 : BitVec 32 := Scalar.muli v2249 c64_i32_660
  v2250
def k0_mult37 : BitVec 32 :=
  let c24_i32_672 : BitVec 32 := 24#32
  let c0_i32_671 : BitVec 32 := 0#32
  let c0_i32_637 : BitVec 32 := 0#32
  let c32_i32_668 : BitVec 32 := 32#32
  let v2265 : BitVec 32 := Scalar.muli c0_i32_637 c32_i32_668
  let c2_i32_669 : BitVec 32 := 2#32
  let v2266 : BitVec 32 := Scalar.addi v2265 c2_i32_669
  let c4_i32_670 : BitVec 32 := 4#32
  let v2267 : BitVec 32 := Scalar.subi v2266 c4_i32_670
  let v2268 : BitVec 32 := Scalar.maxsi c0_i32_671 v2267
  let v2269 : BitVec 32 := Scalar.minsi c24_i32_672 v2268
  let c64_i32_673 : BitVec 32 := 64#32
  let v2270 : BitVec 32 := Scalar.muli v2269 c64_i32_673
  v2270
def k0_mult38 : BitVec 32 :=
  let c24_i32_685 : BitVec 32 := 24#32
  let c0_i32_684 : BitVec 32 := 0#32
  let c0_i32_637 : BitVec 32 := 0#32
  let c32_i32_681 : BitVec 32 := 32#32
  let v2285 : BitVec 32 := Scalar.muli c0_i32_637 c32_i32_681
  let c3_i32_682 : BitVec 32 := 3#32
  let v2286 : BitVec 32 := Scalar.addi v2285 c3_i32_682
  let c4_i32_683 : BitVec 32 := 4#32
  let v2287 : BitVec 32 := Scalar.subi v2286 c4_i32_683
  let v2288 : BitVec 32 := Scalar.maxsi c0_i32_684 v2287
  let v2289 : BitVec 32 := Scalar.minsi c24_i32_685 v2288
  let c64_i32_686 : BitVec 32 := 64#32
  let v2290 : BitVec 32 := Scalar.muli v2289 c64_i32_686
  v2290
def k0_mult39 : BitVec 32 :=
  let c24_i32_698 : BitVec 32 := 24#32
  let c0_i32_697 : BitVec 32 := 0#32
  let c0_i32_637 : BitVec 32 := 0#32
  let c32_i32_694 : BitVec 32 := 32#32
  let v2305 : BitVec 32 := Scalar.muli c0_i32_637 c32_i32_694
  let c4_i32_695 : BitVec 32 := 4#32
  let v2306 : BitVec 32 := Scalar.addi v2305 c4_i32_695
  let c4_i32_696 : BitVec 32 := 4#32
  let v2307 : BitVec 32 := Scalar.subi v2306 c4_i32_696
  let v2308 : BitVec 32 := Scalar.maxsi c0_i32_697 v2307
  let v2309 : BitVec 32 := Scalar.minsi c24_i32_698 v2308
  let c64_i32_699 : BitVec 32 := 64#32
  let v2310 : BitVec 32 := Scalar.muli v2309 c64_i32_699
  v2310
def k0_mult40 : BitVec 32 :=
  let c24_i32_711 : BitVec 32 := 24#32
  let c0_i32_710 : BitVec 32 := 0#32
  let c0_i32_637 : BitVec 32 := 0#32
  let c32_i32_707 : BitVec 32 := 32#32
  let v2325 : BitVec 32 := Scalar.muli c0_i32_637 c32_i32_707
  let c5_i32_708 : BitVec 32 := 5#32
  let v2326 : BitVec 32 := Scalar.addi v2325 c5_i32_708
  let c4_i32_709 : BitVec 32 := 4#32
  let v2327 : BitVec 32 := Scalar.subi v2326 c4_i32_709
  let v2328 : BitVec 32 := Scalar.maxsi c0_i32_710 v2327
  let v2329 : BitVec 32 := Scalar.minsi c24_i32_711 v2328
  let c64_i32_712 : BitVec 32 := 64#32
  let v2330 : BitVec 32 := Scalar.muli v2329 c64_i32_712
  v2330
def k0_mult41 : BitVec 32 :=
  let c24_i32_724 : BitVec 32 := 24#32
  let c0_i32_723 : BitVec 32 := 0#32
  let c0_i32_637 : BitVec 32 := 0#32
  let c32_i32_720 : BitVec 32 := 32#32
  let v2345 : BitVec 32 := Scalar.muli c0_i32_637 c32_i32_720
  let c6_i32_721 : BitVec 32 := 6#32
  let v2346 : BitVec 32 := Scalar.addi v2345 c6_i32_721
  let c4_i32_722 : BitVec 32 := 4#32
  let v2347 : BitVec 32 := Scalar.subi v2346 c4_i32_722
  let v2348 : BitVec 32 := Scalar.maxsi c0_i32_723 v2347
  let v2349 : BitVec 32 := Scalar.minsi c24_i32_724 v2348
  let c64_i32_725 : BitVec 32 := 64#32
  let v2350 : BitVec 32 := Scalar.muli v2349 c64_i32_725
  v2350
def k0_mult42 : BitVec 32 :=
  let c24_i32_737 : BitVec 32 := 24#32
  let c0_i32_736 : BitVec 32 := 0#32
  let c0_i32_637 : BitVec 32 := 0#32
  let c32_i32_733 : BitVec 32 := 32#32
  let v2365 : BitVec 32 := Scalar.muli c0_i32_637 c32_i32_733
  let c7_i32_734 : BitVec 32 := 7#32
  let v2366 : BitVec 32 := Scalar.addi v2365 c7_i32_734
  let c4_i32_735 : BitVec 32 := 4#32
  let v2367 : BitVec 32 := Scalar.subi v2366 c4_i32_735
  let v2368 : BitVec 32 := Scalar.maxsi c0_i32_736 v2367
  let v2369 : BitVec 32 := Scalar.minsi c24_i32_737 v2368
  let c64_i32_738 : BitVec 32 := 64#32
  let v2370 : BitVec 32 := Scalar.muli v2369 c64_i32_738
  v2370
def k0_mult43 : BitVec 32 :=
  let c24_i32_750 : BitVec 32 := 24#32
  let c0_i32_749 : BitVec 32 := 0#32
  let c0_i32_637 : BitVec 32 := 0#32
  let c32_i32_746 : BitVec 32 := 32#32
  let v2385 : BitVec 32 := Scalar.muli c0_i32_637 c32_i32_746
  let c8_i32_747 : BitVec 32 := 8#32
  let v2386 : BitVec 32 := Scalar.addi v2385 c8_i32_747
  let c4_i32_748 : BitVec 32 := 4#32
  let v2387 : BitVec 32 := Scalar.subi v2386 c4_i32_748
  let v2388 : BitVec 32 := Scalar.maxsi c0_i32_749 v2387
  let v2389 : BitVec 32 := Scalar.minsi c24_i32_750 v2388
  let c64_i32_751 : BitVec 32 := 64#32
  let v2390 : BitVec 32 := Scalar.muli v2389 c64_i32_751
  v2390
def k0_mult44 : BitVec 32 :=
  let c24_i32_763 : BitVec 32 := 24#32
  let c0_i32_762 : BitVec 32 := 0#32
  let c0_i32_637 : BitVec 32 := 0#32
  let c32_i32_759 : BitVec 32 := 32#32
  let v2405 : BitVec 32 := Scalar.muli c0_i32_637 c32_i32_759
  let c9_i32_760 : BitVec 32 := 9#32
  let v2406 : BitVec 32 := Scalar.addi v2405 c9_i32_760
  let c4_i32_761 : BitVec 32 := 4#32
  let v2407 : BitVec 32 := Scalar.subi v2406 c4_i32_761
  let v2408 : BitVec 32 := Scalar.maxsi c0_i32_762 v2407
  let v2409 : BitVec 32 := Scalar.minsi c24_i32_763 v2408
  let c64_i32_764 : BitVec 32 := 64#32
  let v2410 : BitVec 32 := Scalar.muli v2409 c64_i32_764
  v2410
def k0_mult45 : BitVec 32 :=
  let c24_i32_776 : BitVec 32 := 24#32
  let c0_i32_775 : BitVec 32 := 0#32
  let c0_i32_637 : BitVec 32 := 0#32
  let c32_i32_772 : BitVec 32 := 32#32
  let v2425 : BitVec 32 := Scalar.muli c0_i32_637 c32_i32_772
  let c10_i32_773 : BitVec 32 := 10#32
  let v2426 : BitVec 32 := Scalar.addi v2425 c10_i32_773
  let c4_i32_774 : BitVec 32 := 4#32
  let v2427 : BitVec 32 := Scalar.subi v2426 c4_i32_774
  let v2428 : BitVec 32 := Scalar.maxsi c0_i32_775 v2427
  let v2429 : BitVec 32 := Scalar.minsi c24_i32_776 v2428
  let c64_i32_777 : BitVec 32 := 64#32
  let v2430 : BitVec 32 := Scalar.muli v2429 c64_i32_777
  v2430
def k0_mult46 : BitVec 32 :=
  let c24_i32_789 : BitVec 32 := 24#32
  let c0_i32_788 : BitVec 32 := 0#32
  let c0_i32_637 : BitVec 32 := 0#32
  let c32_i32_785 : BitVec 32 := 32#32
  let v2445 : BitVec 32 := Scalar.muli c0_i32_637 c32_i32_785
  let c11_i32_786 : BitVec 32 := 11#32
  let v2446 : BitVec 32 := Scalar.addi v2445 c11_i32_786
  let c4_i32_787 : BitVec 32 := 4#32
  let v2447 : BitVec 32 := Scalar.subi v2446 c4_i32_787
  let v2448 : BitVec 32 := Scalar.maxsi c0_i32_788 v2447
  let v2449 : BitVec 32 := Scalar.minsi c24_i32_789 v2448
  let c64_i32_790 : BitVec 32 := 64#32
  let v2450 : BitVec 32 := Scalar.muli v2449 c64_i32_790
  v2450
def k0_mult47 : BitVec 32 :=
  let c24_i32_802 : BitVec 32 := 24#32
  let c0_i32_801 : BitVec 32 := 0#32
  let c0_i32_637 : BitVec 32 := 0#32
  let c32_i32_798 : BitVec 32 := 32#32
  let v2465 : BitVec 32 := Scalar.muli c0_i32_637 c32_i32_798
  let c12_i32_799 : BitVec 32 := 12#32
  let v2466 : BitVec 32 := Scalar.addi v2465 c12_i32_799
  let c4_i32_800 : BitVec 32 := 4#32
  let v2467 : BitVec 32 := Scalar.subi v2466 c4_i32_800
  let v2468 : BitVec 32 := Scalar.maxsi c0_i32_801 v2467
  let v2469 : BitVec 32 := Scalar.minsi c24_i32_802 v2468
  let c64_i32_803 : BitVec 32 := 64#32
  let v2470 : BitVec 32 := Scalar.muli v2469 c64_i32_803
  v2470
def k0_mult48 : BitVec 32 :=
  let c24_i32_815 : BitVec 32 := 24#32
  let c0_i32_814 : BitVec 32 := 0#32
  let c0_i32_637 : BitVec 32 := 0#32
  let c32_i32_811 : BitVec 32 := 32#32
  let v2485 : BitVec 32 := Scalar.muli c0_i32_637 c32_i32_811
  let c13_i32_812 : BitVec 32 := 13#32
  let v2486 : BitVec 32 := Scalar.addi v2485 c13_i32_812
  let c4_i32_813 : BitVec 32 := 4#32
  let v2487 : BitVec 32 := Scalar.subi v2486 c4_i32_813
  let v2488 : BitVec 32 := Scalar.maxsi c0_i32_814 v2487
  let v2489 : BitVec 32 := Scalar.minsi c24_i32_815 v2488
  let c64_i32_816 : BitVec 32 := 64#32
  let v2490 : BitVec 32 := Scalar.muli v2489 c64_i32_816
  v2490
def k0_mult49 : BitVec 32 :=
  let c24_i32_828 : BitVec 32 := 24#32
  let c0_i32_827 : BitVec 32 := 0#32
  let c0_i32_637 : BitVec 32 := 0#32
  let c32_i32_824 : BitVec 32 := 32#32
  let v2505 : BitVec 32 := Scalar.muli c0_i32_637 c32_i32_824
  let c14_i32_825 : BitVec 32 := 14#32
  let v2506 : BitVec 32 := Scalar.addi v2505 c14_i32_825
  let c4_i32_826 : BitVec 32 := 4#32
  let v2507 : BitVec 32 := Scalar.subi v2506 c4_i32_826
  let v2508 : BitVec 32 := Scalar.maxsi c0_i32_827 v2507
  let v2509 : BitVec 32 := Scalar.minsi c24_i32_828 v2508
  let c64_i32_829 : BitVec 32 := 64#32
  let v2510 : BitVec 32 := Scalar.muli v2509 c64_i32_829
  v2510
def k0_mult50 : BitVec 32 :=
  let c24_i32_841 : BitVec 32 := 24#32
  let c0_i32_840 : BitVec 32 := 0#32
  let c0_i32_637 : BitVec 32 := 0#32
  let c32_i32_837 : BitVec 32 := 32#32
  let v2525 : BitVec 32 := Scalar.muli c0_i32_637 c32_i32_837
  let c15_i32_838 : BitVec 32 := 15#32
  let v2526 : BitVec 32 := Scalar.addi v2525 c15_i32_838
  let c4_i32_839 : BitVec 32 := 4#32
  let v2527 : BitVec 32 := Scalar.subi v2526 c4_i32_839
  let v2528 : BitVec 32 := Scalar.maxsi c0_i32_840 v2527
  let v2529 : BitVec 32 := Scalar.minsi c24_i32_841 v2528
  let c64_i32_842 : BitVec 32 := 64#32
  let v2530 : BitVec 32 := Scalar.muli v2529 c64_i32_842
  v2530
def k0_mult51 : BitVec 32 :=
  let c24_i32_854 : BitVec 32 := 24#32
  let c0_i32_853 : BitVec 32 := 0#32
  let c0_i32_637 : BitVec 32 := 0#32
  let c32_i32_850 : BitVec 32 := 32#32
  let v2545 : BitVec 32 := Scalar.muli c0_i32_637 c32_i32_850
  let c16_i32_851 : BitVec 32 := 16#32
  let v2546 : BitVec 32 := Scalar.addi v2545 c16_i32_851
  let c4_i32_852 : BitVec 32 := 4#32
  let v2547 : BitVec 32 := Scalar.subi v2546 c4_i32_852
  let v2548 : BitVec 32 := Scalar.maxsi c0_i32_853 v2547
  let v2549 : BitVec 32 := Scalar.minsi c24_i32_854 v2548
  let c64_i32_855 : BitVec 32 := 64#32
  let v2550 : BitVec 32 := Scalar.muli v2549 c64_i32_855
  v2550
def k0_mult52 : BitVec 32 :=
  let c24_i32_867 : BitVec 32 := 24#32
  let c0_i32_866 : BitVec 32 := 0#32
  let c0_i32_637 : BitVec 32 := 0#32
  let c32_i32_863 : BitVec 32 := 32#32
  let v2565 : BitVec 32 := Scalar.muli c0_i32_637 c32_i32_863
  let c17_i32_864 : BitVec 32 := 17#32
  let v2566 : BitVec 32 := Scalar.addi v2565 c17_i32_864
  let c4_i32_865 : BitVec 32 := 4#32
  let v2567 : BitVec 32 := Scalar.subi v2566 c4_i32_865
  let v2568 : BitVec 32 := Scalar.maxsi c0_i32_866 v2567
  let v2569 : BitVec 32 := Scalar.minsi c24_i32_867 v2568
  let c64_i32_868 : BitVec 32 := 64#32
  let v2570 : BitVec 32 := Scalar.muli v2569 c64_i32_868
  v2570
def k0_mult53 : BitVec 32 :=
  let c24_i32_880 : BitVec 32 := 24#32
  let c0_i32_879 : BitVec 32 := 0#32
  let c0_i32_637 : BitVec 32 := 0#32
  let c32_i32_876 : BitVec 32 := 32#32
  let v2585 : BitVec 32 := Scalar.muli c0_i32_637 c32_i32_876
  let c18_i32_877 : BitVec 32 := 18#32
  let v2586 : BitVec 32 := Scalar.addi v2585 c18_i32_877
  let c4_i32_878 : BitVec 32 := 4#32
  let v2587 : BitVec 32 := Scalar.subi v2586 c4_i32_878
  let v2588 : BitVec 32 := Scalar.maxsi c0_i32_879 v2587
  let v2589 : BitVec 32 := Scalar.minsi c24_i32_880 v2588
  let c64_i32_881 : BitVec 32 := 64#32
  let v2590 : BitVec 32 := Scalar.muli v2589 c64_i32_881
  v2590
def k0_mult54 : BitVec 32 :=
  let c24_i32_893 : BitVec 32 := 24#32
  let c0_i32_892 : BitVec 32 := 0#32
  let c0_i32_637 : BitVec 32 := 0#32
  let c32_i32_889 : BitVec 32 := 32#32
  let v2605 : BitVec 32 := Scalar.muli c0_i32_637 c32_i32_889
  let c19_i32_890 : BitVec 32 := 19#32
  let v2606 : BitVec 32 := Scalar.addi v2605 c19_i32_890
  let c4_i32_891 : BitVec 32 := 4#32
  let v2607 : BitVec 32 := Scalar.subi v2606 c4_i32_891
  let v2608 : BitVec 32 := Scalar.maxsi c0_i32_892 v2607
  let v2609 : BitVec 32 := Scalar.minsi c24_i32_893 v2608
  let c64_i32_894 : BitVec 32 := 64#32
  let v2610 : BitVec 32 := Scalar.muli v2609 c64_i32_894
  v2610
def k0_mult55 : BitVec 32 :=
  let c24_i32_906 : BitVec 32 := 24#32
  let c0_i32_905 : BitVec 32 := 0#32
  let c0_i32_637 : BitVec 32 := 0#32
  let c32_i32_902 : BitVec 32 := 32#32
  let v2625 : BitVec 32 := Scalar.muli c0_i32_637 c32_i32_902
  let c20_i32_903 : BitVec 32 := 20#32
  let v2626 : BitVec 32 := Scalar.addi v2625 c20_i32_903
  let c4_i32_904 : BitVec 32 := 4#32
  let v2627 : BitVec 32 := Scalar.subi v2626 c4_i32_904
  let v2628 : BitVec 32 := Scalar.maxsi c0_i32_905 v2627
  let v2629 : BitVec 32 := Scalar.minsi c24_i32_906 v2628
  let c64_i32_907 : BitVec 32 := 64#32
  let v2630 : BitVec 32 := Scalar.muli v2629 c64_i32_907
  v2630
def k0_mult56 : BitVec 32 :=
  let c24_i32_919 : BitVec 32 := 24#32
  let c0_i32_918 : BitVec 32 := 0#32
  let c0_i32_637 : BitVec 32 := 0#32
  let c32_i32_915 : BitVec 32 := 32#32
  let v2645 : BitVec 32 := Scalar.muli c0_i32_637 c32_i32_915
  let c21_i32_916 : BitVec 32 := 21#32
  let v2646 : BitVec 32 := Scalar.addi v2645 c21_i32_916
  let c4_i32_917 : BitVec 32 := 4#32
  let v2647 : BitVec 32 := Scalar.subi v2646 c4_i32_917
  let v2648 : BitVec 32 := Scalar.maxsi c0_i32_918 v2647
  let v2649 : BitVec 32 := Scalar.minsi c24_i32_919 v2648
  let c64_i32_920 : BitVec 32 := 64#32
  let v2650 : BitVec 32 := Scalar.muli v2649 c64_i32_920
  v2650
def k0_mult57 : BitVec 32 :=
  let c24_i32_932 : BitVec 32 := 24#32
  let c0_i32_931 : BitVec 32 := 0#32
  let c0_i32_637 : BitVec 32 := 0#32
  let c32_i32_928 : BitVec 32 := 32#32
  let v2665 : BitVec 32 := Scalar.muli c0_i32_637 c32_i32_928
  let c22_i32_929 : BitVec 32 := 22#32
  let v2666 : BitVec 32 := Scalar.addi v2665 c22_i32_929
  let c4_i32_930 : BitVec 32 := 4#32
  let v2667 : BitVec 32 := Scalar.subi v2666 c4_i32_930
  let v2668 : BitVec 32 := Scalar.maxsi c0_i32_931 v2667
  let v2669 : BitVec 32 := Scalar.minsi c24_i32_932 v2668
  let c64_i32_933 : BitVec 32 := 64#32
  let v2670 : BitVec 32 := Scalar.muli v2669 c64_i32_933
  v2670
def k0_mult58 : BitVec 32 :=
  let c24_i32_945 : BitVec 32 := 24#32
  let c0_i32_944 : BitVec 32 := 0#32
  let c0_i32_637 : BitVec 32 := 0#32
  let c32_i32_941 : BitVec 32 := 32#32
  let v2685 : BitVec 32 := Scalar.muli c0_i32_637 c32_i32_941
  let c23_i32_942 : BitVec 32 := 23#32
  let v2686 : BitVec 32 := Scalar.addi v2685 c23_i32_942
  let c4_i32_943 : BitVec 32 := 4#32
  let v2687 : BitVec 32 := Scalar.subi v2686 c4_i32_943
  let v2688 : BitVec 32 := Scalar.maxsi c0_i32_944 v2687
  let v2689 : BitVec 32 := Scalar.minsi c24_i32_945 v2688
  let c64_i32_946 : BitVec 32 := 64#32
  let v2690 : BitVec 32 := Scalar.muli v2689 c64_i32_946
  v2690
def k0_mult59 : BitVec 32 :=
  let c24_i32_958 : BitVec 32 := 24#32
  let c0_i32_957 : BitVec 32 := 0#32
  let c0_i32_637 : BitVec 32 := 0#32
  let c32_i32_954 : BitVec 32 := 32#32
  let v2705 : BitVec 32 := Scalar.muli c0_i32_637 c32_i32_954
  let c24_i32_955 : BitVec 32 := 24#32
  let v2706 : BitVec 32 := Scalar.addi v2705 c24_i32_955
  let c4_i32_956 : BitVec 32 := 4#32
  let v2707 : BitVec 32 := Scalar.subi v2706 c4_i32_956
  let v2708 : BitVec 32 := Scalar.maxsi c0_i32_957 v2707
  let v2709 : BitVec 32 := Scalar.minsi c24_i32_958 v2708
  let c64_i32_959 : BitVec 32 := 64#32
  let v2710 : BitVec 32 := Scalar.muli v2709 c64_i32_959
  v2710
def k0_mult60 : BitVec 32 :=
  let c24_i32_971 : BitVec 32 := 24#32
  let c0_i32_970 : BitVec 32 := 0#32
  let c0_i32_637 : BitVec 32 := 0#32
  let c32_i32_967 : BitVec 32 := 32#32
  let v2725 : BitVec 32 := Scalar.muli c0_i32_637 c32_i32_967
  let c25_i32_968 : BitVec 32 := 25#32
  let v2726 : BitVec 32 := Scalar.addi v2725 c25_i32_968
  let c4_i32_969 : BitVec 32 := 4#32
  let v2727 : BitVec 32 := Scalar.subi v2726 c4_i32_969
  let v2728 : BitVec 32 := Scalar.maxsi c0_i32_970 v2727
  let v2729 : BitVec 32 := Scalar.minsi c24_i32_971 v2728
  let c64_i32_972 : BitVec 32 := 64#32
  let v2730 : BitVec 32 := Scalar.muli v2729 c64_i32_972
  v2730
def k0_mult61 : BitVec 32 :=
  let c24_i32_984 : BitVec 32 := 24#32
  let c0_i32_983 : BitVec 32 := 0#32
  let c0_i32_637 : BitVec 32 := 0#32
  let c32_i32_980 : BitVec 32 := 32#32
  let v2745 : BitVec 32 := Scalar.muli c0_i32_637 c32_i32_980
  let c26_i32_981 : BitVec 32 := 26#32
  let v2746 : BitVec 32 := Scalar.addi v2745 c26_i32_981
  let c4_i32_982 : BitVec 32 := 4#32
  let v2747 : BitVec 32 := Scalar.subi v2746 c4_i32_982
  let v2748 : BitVec 32 := Scalar.maxsi c0_i32_983 v2747
  let v2749 : BitVec 32 := Scalar.minsi c24_i32_984 v2748
  let c64_i32_985 : BitVec 32 := 64#32
  let v2750 : BitVec 32 := Scalar.muli v2749 c64_i32_985
  v2750
def k0_mult62 : BitVec 32 :=
  let c24_i32_997 : BitVec 32 := 24#32
  let c0_i32_996 : BitVec 32 := 0#32
  let c0_i32_637 : BitVec 32 := 0#32
  let c32_i32_993 : BitVec 32 := 32#32
  let v2765 : BitVec 32 := Scalar.muli c0_i32_637 c32_i32_993
  let c27_i32_994 : BitVec 32 := 27#32
  let v2766 : BitVec 32 := Scalar.addi v2765 c27_i32_994
  let c4_i32_995 : BitVec 32 := 4#32
  let v2767 : BitVec 32 := Scalar.subi v2766 c4_i32_995
  let v2768 : BitVec 32 := Scalar.maxsi c0_i32_996 v2767
  let v2769 : BitVec 32 := Scalar.minsi c24_i32_997 v2768
  let c64_i32_998 : BitVec 32 := 64#32
  let v2770 : BitVec 32 := Scalar.muli v2769 c64_i32_998
  v2770
def k0_mult63 : BitVec 32 :=
  let c24_i32_1010 : BitVec 32 := 24#32
  let c0_i32_1009 : BitVec 32 := 0#32
  let c0_i32_637 : BitVec 32 := 0#32
  let c32_i32_1006 : BitVec 32 := 32#32
  let v2785 : BitVec 32 := Scalar.muli c0_i32_637 c32_i32_1006
  let c28_i32_1007 : BitVec 32 := 28#32
  let v2786 : BitVec 32 := Scalar.addi v2785 c28_i32_1007
  let c4_i32_1008 : BitVec 32 := 4#32
  let v2787 : BitVec 32 := Scalar.subi v2786 c4_i32_1008
  let v2788 : BitVec 32 := Scalar.maxsi c0_i32_1009 v2787
  let v2789 : BitVec 32 := Scalar.minsi c24_i32_1010 v2788
  let c64_i32_1011 : BitVec 32 := 64#32
  let v2790 : BitVec 32 := Scalar.muli v2789 c64_i32_1011
  v2790
def k0_mult64 : BitVec 32 :=
  let c24_i32_1023 : BitVec 32 := 24#32
  let c0_i32_1022 : BitVec 32 := 0#32
  let c0_i32_637 : BitVec 32 := 0#32
  let c32_i32_1019 : BitVec 32 := 32#32
  let v2805 : BitVec 32 := Scalar.muli c0_i32_637 c32_i32_1019
  let c29_i32_1020 : BitVec 32 := 29#32
  let v2806 : BitVec 32 := Scalar.addi v2805 c29_i32_1020
  let c4_i32_1021 : BitVec 32 := 4#32
  let v2807 : BitVec 32 := Scalar.subi v2806 c4_i32_1021
  let v2808 : BitVec 32 := Scalar.maxsi c0_i32_1022 v2807
  let v2809 : BitVec 32 := Scalar.minsi c24_i32_1023 v2808
  let c64_i32_1024 : BitVec 32 := 64#32
  let v2810 : BitVec 32 := Scalar.muli v2809 c64_i32_1024
  v2810
def k0_mult65 : BitVec 32 :=
  let c24_i32_1036 : BitVec 32 := 24#32
  let c0_i32_1035 : BitVec 32 := 0#32
  let c0_i32_637 : BitVec 32 := 0#32
  let c32_i32_1032 : BitVec 32 := 32#32
  let v2825 : BitVec 32 := Scalar.muli c0_i32_637 c32_i32_1032
  let c30_i32_1033 : BitVec 32 := 30#32
  let v2826 : BitVec 32 := Scalar.addi v2825 c30_i32_1033
  let c4_i32_1034 : BitVec 32 := 4#32
  let v2827 : BitVec 32 := Scalar.subi v2826 c4_i32_1034
  let v2828 : BitVec 32 := Scalar.maxsi c0_i32_1035 v2827
  let v2829 : BitVec 32 := Scalar.minsi c24_i32_1036 v2828
  let c64_i32_1037 : BitVec 32 := 64#32
  let v2830 : BitVec 32 := Scalar.muli v2829 c64_i32_1037
  v2830
def k0_mult66 : BitVec 32 :=
  let c24_i32_1049 : BitVec 32 := 24#32
  let c0_i32_1048 : BitVec 32 := 0#32
  let c0_i32_637 : BitVec 32 := 0#32
  let c32_i32_1045 : BitVec 32 := 32#32
  let v2845 : BitVec 32 := Scalar.muli c0_i32_637 c32_i32_1045
  let c31_i32_1046 : BitVec 32 := 31#32
  let v2846 : BitVec 32 := Scalar.addi v2845 c31_i32_1046
  let c4_i32_1047 : BitVec 32 := 4#32
  let v2847 : BitVec 32 := Scalar.subi v2846 c4_i32_1047
  let v2848 : BitVec 32 := Scalar.maxsi c0_i32_1048 v2847
  let v2849 : BitVec 32 := Scalar.minsi c24_i32_1049 v2848
  let c64_i32_1050 : BitVec 32 := 64#32
  let v2850 : BitVec 32 := Scalar.muli v2849 c64_i32_1050
  v2850
def k0_off8 (c0_i32_1126 : BitVec 32) : Fin 3 → Nat :=
  let c0_1127 : Index := 0#32
  let c0_i32_637 : BitVec 32 := 0#32
  let c2048_i32_638 : BitVec 32 := 2048#32
  let v2217 : BitVec 32 := Scalar.muli c0_i32_637 c2048_i32_638
  let v2218 : BitVec 32 := v2217
  let v3964 : BitVec 32 := Scalar.addi v2218 c0_i32_1126
  let v3965 : Index := Scalar.indexCast v3964
  let c128_1128 : Index := 128#32
  ![0, v3965.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x15360 : Shape := ⟨3, ![8, 2048, 15360]⟩
abbrev S8x256x15360 : Shape := ⟨3, ![8, 256, 15360]⟩
abbrev S8x15x31 : Shape := ⟨3, ![8, 15, 31]⟩
abbrev S8x256x1024 : Shape := ⟨3, ![8, 256, 1024]⟩
abbrev S8x256x8x128 : Shape := ⟨4, ![8, 256, 8, 128]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x128x256 : Shape := ⟨4, ![8, 8, 128, 256]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x15360, .bf16⟩
  | .hbm, ⟨1, _⟩ => ⟨S8x256x15360, .bf16⟩
  | .hbm, ⟨2, _⟩ => ⟨S8x15x31, .f32⟩
  | .hbm, ⟨3, _⟩ => ⟨S8x256x1024, .bf16⟩
  | .hbm, ⟨4, _⟩ => ⟨S8x256x1024, .f32⟩
  | .hbm, ⟨5, _⟩ => ⟨S8x256x8x128, .f32⟩
  | .hbm, ⟨6, _⟩ => ⟨S8x256x1024, .bf16⟩
  | .hbm, ⟨7, _⟩ => ⟨S8x256x1024, .f32⟩
  | .hbm, ⟨8, _⟩ => ⟨S8x256x8x128, .f32⟩
  | .hbm, ⟨9, _⟩ => ⟨S8x256x1024, .bf16⟩
  | .hbm, ⟨10, _⟩ => ⟨S8x256x1024, .f32⟩
  | .hbm, ⟨11, _⟩ => ⟨S8x256x8x128, .f32⟩
  | .hbm, ⟨12, _⟩ => ⟨S8x8x256x256, .f32⟩
  | .hbm, ⟨13, _⟩ => ⟨S_, .f32⟩
  | .hbm, ⟨14, _⟩ => ⟨S8x8x256x256, .f32⟩
  | .hbm, ⟨15, _⟩ => ⟨S8x8x256x256, .f32⟩
  | .hbm, ⟨16, _⟩ => ⟨S_, .f32⟩
  | .hbm, ⟨17, _⟩ => ⟨S8x8x256, .f32⟩
  | .hbm, ⟨18, _⟩ => ⟨S_, .f32⟩
  | .hbm, ⟨19, _⟩ => ⟨S8x8x256, .f32⟩
  | .hbm, ⟨20, _⟩ => ⟨S8x8x256, .f32⟩
  | .hbm, ⟨21, _⟩ => ⟨S8x8x256x1, .f32⟩
  | .hbm, ⟨22, _⟩ => ⟨S8x8x256x256, .f32⟩
  | .hbm, ⟨23, _⟩ => ⟨S8x8x256x256, .f32⟩
  | .hbm, ⟨24, _⟩ => ⟨S8x8x256x256, .f32⟩
  | .hbm, ⟨25, _⟩ => ⟨S_, .f32⟩
  | .hbm, ⟨26, _⟩ => ⟨S8x8x256, .f32⟩
  | .hbm, ⟨27, _⟩ => ⟨S8x8x256x1, .f32⟩
  | .hbm, ⟨28, _⟩ => ⟨S8x8x256x256, .f32⟩
  | .hbm, ⟨29, _⟩ => ⟨S8x8x256x256, .f32⟩
  | .hbm, ⟨30, _⟩ => ⟨S8x8x128x256, .f32⟩
  | .hbm, ⟨31, _⟩ => ⟨S8x256x8x128, .f32⟩
  | .hbm, ⟨32, _⟩ => ⟨S8x256x1024, .f32⟩
  | .hbm, ⟨33, _⟩ => ⟨S8x256x1024, .bf16⟩
  | _, _ => ⟨S8x2048x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S8x2048 : Shape := ⟨2, ![8, 2048]⟩
abbrev S2x15360x2048 : Shape := ⟨3, ![2, 15360, 2048]⟩
abbrev S2x128x2048 : Shape := ⟨3, ![2, 128, 2048]⟩
abbrev S16384x2048 : Shape := ⟨2, ![16384, 2048]⟩
abbrev S8x1x2048 : Shape := ⟨3, ![8, 1, 2048]⟩
abbrev S1x2048 : Shape := ⟨2, ![1, 2048]⟩
abbrev S16384x15360 : Shape := ⟨2, ![16384, 15360]⟩
abbrev S16384x128 : Shape := ⟨2, ![16384, 128]⟩
abbrev S1024x2048 : Shape := ⟨2, ![1024, 2048]⟩
abbrev S1x1x2048 : Shape := ⟨3, ![1, 1, 2048]⟩
abbrev S1x2560x2048 : Shape := ⟨3, ![1, 2560, 2048]⟩
abbrev S1x128x2048 : Shape := ⟨3, ![1, 128, 2048]⟩
abbrev S1024x2560 : Shape := ⟨2, ![1024, 2560]⟩
abbrev S1024x128 : Shape := ⟨2, ![1024, 128]⟩
abbrev S1024 : Shape := ⟨1, ![1024]⟩
abbrev S1024x1 : Shape := ⟨2, ![1024, 1]⟩
abbrev S128x2048 : Shape := ⟨2, ![128, 2048]⟩
abbrev S2560x2048 : Shape := ⟨2, ![2560, 2048]⟩

abbrev nBuf : Space → Nat
  | .hbm => 12
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2x15360x2048, .bf16⟩
  | .hbm, ⟨5, _⟩ => ⟨S2x128x2048, .bf16⟩
  | .hbm, ⟨6, _⟩ => ⟨S16384x2048, .f32⟩
  | .hbm, ⟨7, _⟩ => ⟨S8x1x2048, .f32⟩
  | .hbm, ⟨8, _⟩ => ⟨S8x1x2048, .f32⟩
  | .hbm, ⟨9, _⟩ => ⟨S1x2048, .f32⟩
  | .hbm, ⟨10, _⟩ => ⟨S16384x15360, .bf16⟩
  | .hbm, ⟨11, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2560x2048, .bf16⟩
  | .local _ .vmem, ⟨8, _⟩ => ⟨S1x2560x2048, .bf16⟩
  | .local _ .vmem, ⟨9, _⟩ => ⟨S1x128x2048, .bf16⟩
  | .local _ .vmem, ⟨10, _⟩ => ⟨S1024x2560, .bf16⟩
  | .local _ .vmem, ⟨11, _⟩ => ⟨S1024x2560, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2560x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8x2048x2048 : Shape := ⟨3, ![8, 2048, 2048]⟩
abbrev S2048 : Shape := ⟨1, ![2048]⟩
abbrev S8x2048 : Shape := ⟨2, ![8, 2048]⟩
abbrev S2x15360x2048 : Shape := ⟨3, ![2, 15360, 2048]⟩
abbrev S2x128x2048 : Shape := ⟨3, ![2, 128, 2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S16384x2048 : Shape := ⟨2, ![16384, 2048]⟩
abbrev S1x15360x2048 : Shape := ⟨3, ![1, 15360, 2048]⟩
abbrev S15360x2048 : Shape := ⟨2, ![15360, 2048]⟩
abbrev S2048x15360 : Shape := ⟨2, ![2048, 15360]⟩
abbrev S16384x15360 : Shape := ⟨2, ![16384, 15360]⟩
abbrev S1x128x2048 : Shape := ⟨3, ![1, 128, 2048]⟩
abbrev S128x2048 : Shape := ⟨2, ![128, 2048]⟩
abbrev S2048x128 : Shape := ⟨2, ![2048, 128]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2x15360x2048, .bf16⟩
  | .hbm, ⟨5, _⟩ => ⟨S2x128x2048, .bf16⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S8x1x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S16384x2048, .f32⟩
  | .hbm, ⟨32, _⟩ => ⟨S1x15360x2048, .bf16⟩
  | .hbm, ⟨33, _⟩ => ⟨S15360x2048, .bf16⟩
  | .hbm, ⟨34, _⟩ => ⟨S15360x2048, .f32⟩
  | .hbm, ⟨35, _⟩ => ⟨S2048x15360, .f32⟩
  | .hbm, ⟨36, _⟩ => ⟨S16384x15360, .f32⟩
  | .hbm, ⟨37, _⟩ => ⟨S1x128x2048, .bf16⟩
  | .hbm, ⟨38, _⟩ => ⟨S128x2048, .bf16⟩
  | .hbm, ⟨39, _⟩ => ⟨S128x2048, .f32⟩
  | .hbm, ⟨40, _⟩ => ⟨S2048x128, .f32⟩
  | .hbm, ⟨41, _⟩ => ⟨S16384x128, .f32⟩
  | .hbm, ⟨42, _⟩ => ⟨S16384x15360, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel3.lean ====
abbrev S8x2048x15360 : Shape := ⟨3, ![8, 2048, 15360]⟩
abbrev S8x2048x1024 : Shape := ⟨3, ![8, 2048, 1024]⟩
abbrev S8x2048x2048 : Shape := ⟨3, ![8, 2048, 2048]⟩
abbrev S8x2048 : Shape := ⟨2, ![8, 2048]⟩
abbrev S1024 : Shape := ⟨1, ![1024]⟩
abbrev S2x1024x2048 : Shape := ⟨3, ![2, 1024, 2048]⟩
abbrev S2x2048x2048 : Shape := ⟨3, ![2, 2048, 2048]⟩
abbrev S2048 : Shape := ⟨1, ![2048]⟩
abbrev S16384x15360 : Shape := ⟨2, ![16384, 15360]⟩
abbrev S16384x1024 : Shape := ⟨2, ![16384, 1024]⟩
abbrev S16384x2048 : Shape := ⟨2, ![16384, 2048]⟩
abbrev S8x1x2048 : Shape := ⟨3, ![8, 1, 2048]⟩
abbrev S1x2048 : Shape := ⟨2, ![1, 2048]⟩
abbrev S1x1024 : Shape := ⟨2, ![1, 1024]⟩
abbrev S256x1024 : Shape := ⟨2, ![256, 1024]⟩
abbrev S1x1024x2048 : Shape := ⟨3, ![1, 1024, 2048]⟩
abbrev S1x2048x2048 : Shape := ⟨3, ![1, 2048, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S2048x2048 : Shape := ⟨2, ![2048, 2048]⟩

abbrev nBuf : Space → Nat
  | .hbm => 21
  | .vmem => 37
  | .smem => 0
  | _ => 0

abbrev bufTy : (tb : Table) → Fin (tcTables nBuf tb) → BufTy
  | .hbm, ⟨0, _⟩ => ⟨S8x2048x15360, .bf16⟩
  | .hbm, ⟨1, _⟩ => ⟨S8x2048x1024, .bf16⟩
  | .hbm, ⟨2, _⟩ => ⟨S8x2048x1024, .bf16⟩
  | .hbm, ⟨3, _⟩ => ⟨S8x2048x1024, .f32⟩
  | .hbm, ⟨4, _⟩ => ⟨S8x2048x2048, .f32⟩
  | .hbm, ⟨5, _⟩ => ⟨S8x2048, .f32⟩
  | .hbm, ⟨6, _⟩ => ⟨S1024, .f32⟩
  | .hbm, ⟨7, _⟩ => ⟨S2x1024x2048, .bf16⟩
  | .hbm, ⟨8, _⟩ => ⟨S2x1024x2048, .bf16⟩
  | .hbm, ⟨9, _⟩ => ⟨S2x1024x2048, .bf16⟩
  | .hbm, ⟨10, _⟩ => ⟨S2x2048x2048, .bf16⟩
  | .hbm, ⟨11, _⟩ => ⟨S2048, .f32⟩
  | .hbm, ⟨12, _⟩ => ⟨S16384x15360, .bf16⟩
  | .hbm, ⟨13, _⟩ => ⟨S16384x1024, .bf16⟩
  | .hbm, ⟨14, _⟩ => ⟨S16384x1024, .bf16⟩
  | .hbm, ⟨15, _⟩ => ⟨S16384x1024, .f32⟩
  | .hbm, ⟨16, _⟩ => ⟨S16384x2048, .f32⟩
  | .hbm, ⟨17, _⟩ => ⟨S8x1x2048, .f32⟩
  | .hbm, ⟨18, _⟩ => ⟨S1x2048, .f32⟩
  | .hbm, ⟨19, _⟩ => ⟨S1x1024, .f32⟩
  | .hbm, ⟨20, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S1x2048x2048, .bf16⟩
  | .local _ .vmem, ⟨27, _⟩ => ⟨S256x2048, .f32⟩
  | .local _ .vmem, ⟨28, _⟩ => ⟨S256x2048, .f32⟩
  | .local _ .vmem, ⟨29, _⟩ => ⟨S1x1x2048, .f32⟩
  | .local _ .vmem, ⟨30, _⟩ => ⟨S1x1x2048, .f32⟩
  | .local _ .vmem, ⟨31, _⟩ => ⟨S1x2048, .f32⟩
  | .local _ .vmem, ⟨32, _⟩ => ⟨S256x2048, .f32⟩
  | .local _ .vmem, ⟨33, _⟩ => ⟨S256x2048, .f32⟩
  | .local _ .vmem, ⟨34, _⟩ => ⟨S256x1024, .bf16⟩
  | .local _ .vmem, ⟨35, _⟩ => ⟨S256x1024, .bf16⟩
  | .local _ .vmem, ⟨36, _⟩ => ⟨S256x2048, .bf16⟩
  | _, _ => ⟨S8x2048x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let v28 : BitVec 32 := Scalar.divsi v27 c2_i32
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c2_i32_17 : BitVec 32 := 2#32
  let v45 : BitVec 1 := Scalar.cmpi .slt v44 c2_i32_17
  let c5_i32 : BitVec 32 := 5#32
  let v46 : BitVec 32 := Scalar.subi c5_i32 v44
  let v47 : BitVec 32 := Scalar.select v45 v44 v46
  let c2_i32_18 : BitVec 32 := 2#32
  let v48 : BitVec 32 := Scalar.muli v47 c2_i32_18
  let v49 : BitVec 32 := Scalar.addi v17 v48
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi arg0 v51
  let c0_i32_22 : BitVec 32 := 0#32
  let v53 : BitVec 1 := Scalar.cmpi .ne v52 c0_i32_22
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.addi v49 v59
  let c0_i32_25 : BitVec 32 := 0#32
  let c0_i32_26 : BitVec 32 := 0#32
  ![v60.toNat, c0_i32_25.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_11 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_12 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_13 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_14 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S8x2048x15360 : Shape := ⟨3, ![8, 2048, 15360]⟩
abbrev S8x2048x1024 : Shape := ⟨3, ![8, 2048, 1024]⟩
abbrev S8x2048x2048 : Shape := ⟨3, ![8, 2048, 2048]⟩
abbrev S8x2048 : Shape := ⟨2, ![8, 2048]⟩
abbrev S1024 : Shape := ⟨1, ![1024]⟩
abbrev S2x1024x2048 : Shape := ⟨3, ![2, 1024, 2048]⟩
abbrev S2x2048x2048 : Shape := ⟨3, ![2, 2048, 2048]⟩
abbrev S2048 : Shape := ⟨1, ![2048]⟩
abbrev S8x4x512x1024 : Shape := ⟨4, ![8, 4, 512, 1024]⟩
abbrev S8x1x512x1024 : Shape := ⟨4, ![8, 1, 512, 1024]⟩
abbrev S_ : Shape := ⟨0, ![]⟩
abbrev S1x1024x2048 : Shape := ⟨3, ![1, 1024, 2048]⟩
abbrev S1024x2048 : Shape := ⟨2, ![1024, 2048]⟩
abbrev S8x2048x1 : Shape := ⟨3, ![8, 2048, 1]⟩
abbrev S1x1x1024 : Shape := ⟨3, ![1, 1, 1024]⟩
abbrev S1x2048x2048 : Shape := ⟨3, ![1, 2048, 2048]⟩
abbrev S2048x2048 : Shape := ⟨2, ![2048, 2048]⟩
abbrev S8x1x2048 : Shape := ⟨3, ![8, 1, 2048]⟩
abbrev S1x1x2048 : Shape := ⟨3, ![1, 1, 2048]⟩
abbrev S16384x2048 : Shape := ⟨2, ![16384, 2048]⟩

abbrev nBuf : Space → Nat
  | .hbm => 129
  | .vmem => 0
  | .smem => 0
  | _ => 0

abbrev hbmTy0_0 (i : Nat) : BufTy := match i % 128 with
  | 0 => ⟨S8x2048x15360, .bf16⟩
  | 1 => ⟨S8x2048x1024, .bf16⟩
  | 2 => ⟨S8x2048x1024, .bf16⟩
  | 3 => ⟨S8x2048x1024, .f32⟩
  | 4 => ⟨S8x2048x2048, .f32⟩
  | 5 => ⟨S8x2048, .f32⟩
  | 6 => ⟨S1024, .f32⟩
  | 7 => ⟨S2x1024x2048, .bf16⟩
  | 8 => ⟨S2x1024x2048, .bf16⟩
  | 9 => ⟨S2x1024x2048, .bf16⟩
  | 10 => ⟨S2x2048x2048, .bf16⟩
  | 11 => ⟨S2048, .f32⟩
  | 12 => ⟨S8x2048x15360, .f32⟩
  | 13 => ⟨S8x2048x1024, .f32⟩
  | 14 => ⟨S8x2048x1024, .f32⟩
  | 15 => ⟨S8x2048x2048, .f32⟩
  | 16 => ⟨S8x2048x2048, .f32⟩
  | 17 => ⟨S8x2048x2048, .f32⟩
  | 18 => ⟨S8x2048x1024, .f32⟩
  | 19 => ⟨S8x4x512x1024, .f32⟩
  | 20 => ⟨S8x1x512x1024, .f32⟩
  | 21 => ⟨S8x1x512x1024, .f32⟩
  | 22 => ⟨S8x1x512x1024, .f32⟩
  | 23 => ⟨S8x1x512x1024, .f32⟩
  | 24 => ⟨S8x4x512x1024, .f32⟩
  | 25 => ⟨S8x2048x1024, .f32⟩
  | 26 => ⟨S8x2048x1024, .f32⟩
  | 27 => ⟨S8x2048x1024, .f32⟩
  | 28 => ⟨S8x2048x1024, .f32⟩
  | 29 => ⟨S_, .f32⟩
  | 30 => ⟨S8x2048x1024, .f32⟩
  | 31 => ⟨S8x2048x1024, .f32⟩
  | 32 => ⟨S_, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1024x2048, .bf16⟩
  | 38 => ⟨S1024x2048, .bf16⟩
  | 39 => ⟨S1024x2048, .f32⟩
  | 40 => ⟨S8x2048x2048, .f32⟩
  | 41 => ⟨S1x1024x2048, .bf16⟩
  | 42 => ⟨S1024x2048, .bf16⟩
  | 43 => ⟨S1024x2048, .f32⟩
  | 44 => ⟨S8x2048x2048, .f32⟩
  | 45 => ⟨S8x2048x1024, .f32⟩
  | 46 => ⟨S8x2048x1024, .f32⟩
  | 47 => ⟨S_, .f32⟩
  | 48 => ⟨S8x2048x1024, .f32⟩
  | 49 => ⟨S8x2048x1024, .f32⟩
  | 50 => ⟨S_, .f32⟩
  | 51 => ⟨S8x2048x1024, .f32⟩
  | 52 => ⟨S8x2048x1024, .f32⟩
  | 53 => ⟨S8x2048x1024, .f32⟩
  | 54 => ⟨S8x2048x1024, .f32⟩
  | 55 => ⟨S8x2048x1024, .f32⟩
  | 56 => ⟨S_, .f32⟩
  | 57 => ⟨S8x2048, .f32⟩
  | 58 => ⟨S8x2048x1, .f32⟩
  | 59 => ⟨S_, .f32⟩
  | 60 => ⟨S8x2048x1, .f32⟩
  | 61 => ⟨S8x2048x1, .f32⟩
  | 62 => ⟨S_, .f32⟩
  | 63 => ⟨S8x2048x1, .f32⟩
  | 64 => ⟨S8x2048x1, .f32⟩
  | 65 => ⟨S8x2048x1, .f32⟩
  | 66 => ⟨S8x2048x1024, .f32⟩
  | 67 => ⟨S8x2048x1024, .f32⟩
  | 68 => ⟨S1x1x1024, .f32⟩
  | 69 => ⟨S8x2048x1024, .f32⟩
  | 70 => ⟨S8x2048x1024, .f32⟩
  | 71 => ⟨S1x1024x2048, .bf16⟩
  | 72 => ⟨S1024x2048, .bf16⟩
  | 73 => ⟨S1024x2048, .f32⟩
  | 74 => ⟨S8x2048x2048, .f32⟩
  | 75 => ⟨S8x2048x2048, .f32⟩
  | 76 => ⟨S8x2048x2048, .f32⟩
  | 77 => ⟨S_, .f32⟩
  | 78 => ⟨S8x2048x2048, .f32⟩
  | 79 => ⟨S8x2048x2048, .f32⟩
  | 80 => ⟨S_, .f32⟩
  | 81 => ⟨S8x2048x2048, .f32⟩
  | 82 => ⟨S8x2048x2048, .f32⟩
  | 83 => ⟨S8x2048x2048, .f32⟩
  | 84 => ⟨S8x2048x2048, .f32⟩
  | 85 => ⟨S8x2048x2048, .f32⟩
  | 86 => ⟨S_, .f32⟩
  | 87 => ⟨S8x2048x2048, .f32⟩
  | 88 => ⟨S8x2048x2048, .f32⟩
  | 89 => ⟨S_, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S_, .f32⟩
  | 97 => ⟨S8x2048x2048, .f32⟩
  | 98 => ⟨S8x2048x2048, .f32⟩
  | 99 => ⟨S_, .f32⟩
  | 100 => ⟨S8x2048x2048, .f32⟩
  | 101 => ⟨S8x2048x2048, .f32⟩
  | 102 => ⟨S8x2048x2048, .f32⟩
  | 103 => ⟨S8x2048x2048, .f32⟩
  | 104 => ⟨S1x2048x2048, .bf16⟩
  | 105 => ⟨S2048x2048, .bf16⟩
  | 106 => ⟨S2048x2048, .f32⟩
  | 107 => ⟨S8x2048x2048, .f32⟩
  | 108 => ⟨S8x1x2048, .f32⟩
  | 109 => ⟨S8x2048x2048, .f32⟩
  | 110 => ⟨S8x2048x2048, .f32⟩
  | 111 => ⟨S8x2048x2048, .f32⟩
  | 112 => ⟨S8x2048x2048, .f32⟩
  | 113 => ⟨S_, .f32⟩
  | 114 => ⟨S8x2048, .f32⟩
  | 115 => ⟨S8x2048x1, .f32⟩
  | 116 => ⟨S_, .f32⟩
  | 117 => ⟨S8x2048x1, .f32⟩
  | 118 => ⟨S8x2048x1, .f32⟩
  | 119 => ⟨S_, .f32⟩
  | 120 => ⟨S8x2048x1, .f32⟩
  | 121 => ⟨S8x2048x1, .f32⟩
  | 122 => ⟨S8x2048x1, .f32⟩
  | 123 => ⟨S8x2048x2048, .f32⟩
  | 124 => ⟨S8x2048x2048, .f32⟩
  | 125 => ⟨S1x1x2048, .f32⟩
  | 126 => ⟨S8x2048x2048, .f32⟩
  | 127 => ⟨S8x2048x2048, .f32⟩
  | _ => ⟨S8x2048x15360, .bf16⟩

abbrev hbmTy0_1 (i : Nat) : BufTy := match i % 128 with
  | 0 => ⟨S16384x2048, .f32⟩
  | _ => ⟨S8x2048x15360, .bf16⟩

abbrev hbmTy (i : Nat) : BufTy := match i / 128 with
  | 0 => hbmTy0_0 i
  | 1 => hbmTy0_1 i
  | _ => ⟨S8x2048x15360, .bf16⟩

abbrev bufTy : (tb : Table) → Fin (tcTables nBuf tb) → BufTy
  | .hbm, ⟨i, _⟩ => hbmTy i
  | _, _ => ⟨S8x2048x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst : Ref sig .tc := ⟨.hbm, 56, rfl⟩
abbrev main_v28 : Ref sig .tc := ⟨.hbm, 57, rfl⟩
abbrev main_v29 : Ref sig .tc := ⟨.hbm, 58, rfl⟩
abbrev main_cst_0 : Ref sig .tc := ⟨.hbm, 59, rfl⟩
abbrev main_v30 : Ref sig .tc := ⟨.hbm, 60, rfl⟩
abbrev main_v31 : Ref sig .tc := ⟨.hbm, 61, rfl⟩
abbrev main_cst_1 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_2 : Ref sig .tc := ⟨.hbm, 77, rfl⟩
abbrev main_v46 : Ref sig .tc := ⟨.hbm, 78, rfl⟩
abbrev main_v47 : Ref sig .tc := ⟨.hbm, 79, rfl⟩
abbrev main_cst_3 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_4 : Ref sig .tc := ⟨.hbm, 86, rfl⟩
abbrev main_v53 : Ref sig .tc := ⟨.hbm, 87, rfl⟩
abbrev main_v54 : Ref sig .tc := ⟨.hbm, 88, rfl⟩
abbrev main_cst_5 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_6 : Ref sig .tc := ⟨.hbm, 96, rfl⟩
abbrev main_v61 : Ref sig .tc := ⟨.hbm, 97, rfl⟩
abbrev main_v62 : Ref sig .tc := ⟨.hbm, 98, rfl⟩
abbrev main_cst_7 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_8 : Ref sig .tc := ⟨.hbm, 113, rfl⟩
abbrev main_v76 : Ref sig .tc := ⟨.hbm, 114, rfl⟩
abbrev main_v77 : Ref sig .tc := ⟨.hbm, 115, rfl⟩
abbrev main_cst_9 : Ref sig .tc := ⟨.hbm, 116, rfl⟩
abbrev main_v78 : Ref sig .tc := ⟨.hbm, 117, rfl⟩
abbrev main_v79 : Ref sig .tc := ⟨.hbm, 118, rfl⟩
abbrev main_cst_10 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]
-- ==== Kernel4.lean ====
abbrev S8x2048x15360 : Shape := ⟨3, ![8, 2048, 15360]⟩
abbrev S8x2048x1024 : Shape := ⟨3, ![8, 2048, 1024]⟩
abbrev S8x2048x2048 : Shape := ⟨3, ![8, 2048, 2048]⟩
abbrev S8x2048 : Shape := ⟨2, ![8, 2048]⟩
abbrev S1024 : Shape := ⟨1, ![1024]⟩
abbrev S2x1024x2048 : Shape := ⟨3, ![2, 1024, 2048]⟩
abbrev S2x2048x2048 : Shape := ⟨3, ![2, 2048, 2048]⟩
abbrev S16384x15360 : Shape := ⟨2, ![16384, 15360]⟩
abbrev S16384x1024 : Shape := ⟨2, ![16384, 1024]⟩
abbrev S16384x2048 : Shape := ⟨2, ![16384, 2048]⟩
abbrev S8x1x2048 : Shape := ⟨3, ![8, 1, 2048]⟩
abbrev S1x1024 : Shape := ⟨2, ![1, 1024]⟩
abbrev S256x1024 : Shape := ⟨2, ![256, 1024]⟩
abbrev S1x1024x2048 : Shape := ⟨3, ![1, 1024, 2048]⟩
abbrev S1x2048x2048 : Shape := ⟨3, ![1, 2048, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S2048x2048 : Shape := ⟨2, ![2048, 2048]⟩
abbrev S1x2048 : Shape := ⟨2, ![1, 2048]⟩

abbrev nBuf : Space → Nat
  | .hbm => 19
  | .vmem => 36
  | .smem => 0
  | _ => 0

abbrev bufTy : (tb : Table) → Fin (tcTables nBuf tb) → BufTy
  | .hbm, ⟨0, _⟩ => ⟨S8x2048x15360, .bf16⟩
  | .hbm, ⟨1, _⟩ => ⟨S8x2048x1024, .bf16⟩
  | .hbm, ⟨2, _⟩ => ⟨S8x2048x1024, .bf16⟩
  | .hbm, ⟨3, _⟩ => ⟨S8x2048x1024, .f32⟩
  | .hbm, ⟨4, _⟩ => ⟨S8x2048x2048, .f32⟩
  | .hbm, ⟨5, _⟩ => ⟨S8x2048, .f32⟩
  | .hbm, ⟨6, _⟩ => ⟨S1024, .f32⟩
  | .hbm, ⟨7, _⟩ => ⟨S2x1024x2048, .bf16⟩
  | .hbm, ⟨8, _⟩ => ⟨S2x1024x2048, .bf16⟩
  | .hbm, ⟨9, _⟩ => ⟨S2x1024x2048, .bf16⟩
  | .hbm, ⟨10, _⟩ => ⟨S2x2048x2048, .bf16⟩
  | .hbm, ⟨11, _⟩ => ⟨S16384x15360, .bf16⟩
  | .hbm, ⟨12, _⟩ => ⟨S16384x1024, .bf16⟩
  | .hbm, ⟨13, _⟩ => ⟨S16384x1024, .bf16⟩
  | .hbm, ⟨14, _⟩ => ⟨S16384x1024, .f32⟩
  | .hbm, ⟨15, _⟩ => ⟨S16384x2048, .f32⟩
  | .hbm, ⟨16, _⟩ => ⟨S8x1x2048, .f32⟩
  | .hbm, ⟨17, _⟩ => ⟨S1x1024, .f32⟩
  | .hbm, ⟨18, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S1x2048x2048, .bf16⟩
  | .local _ .vmem, ⟨27, _⟩ => ⟨S256x2048, .f32⟩
  | .local _ .vmem, ⟨28, _⟩ => ⟨S256x2048, .f32⟩
  | .local _ .vmem, ⟨29, _⟩ => ⟨S1x1x2048, .f32⟩
  | .local _ .vmem, ⟨30, _⟩ => ⟨S1x1x2048, .f32⟩
  | .local _ .vmem, ⟨31, _⟩ => ⟨S256x2048, .f32⟩
  | .local _ .vmem, ⟨32, _⟩ => ⟨S256x2048, .f32⟩
  | .local _ .vmem, ⟨33, _⟩ => ⟨S256x1024, .bf16⟩
  | .local _ .vmem, ⟨34, _⟩ => ⟨S256x1024, .bf16⟩
  | .local _ .vmem, ⟨35, _⟩ => ⟨S256x2048, .bf16⟩
  | _, _ => ⟨S8x2048x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let v28 : BitVec 32 := Scalar.divsi v27 c2_i32
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c2_i32_17 : BitVec 32 := 2#32
  let v45 : BitVec 1 := Scalar.cmpi .slt v44 c2_i32_17
  let c5_i32 : BitVec 32 := 5#32
  let v46 : BitVec 32 := Scalar.subi c5_i32 v44
  let v47 : BitVec 32 := Scalar.select v45 v44 v46
  let c2_i32_18 : BitVec 32 := 2#32
  let v48 : BitVec 32 := Scalar.muli v47 c2_i32_18
  let v49 : BitVec 32 := Scalar.addi v17 v48
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi arg0 v51
  let c0_i32_22 : BitVec 32 := 0#32
  let v53 : BitVec 1 := Scalar.cmpi .ne v52 c0_i32_22
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let v57 : BitVec 1 := Scalar.andi v56 v53
  let v58 : BitVec 32 := Scalar.addi v52 v51
  let v59 : BitVec 32 := Scalar.select v57 v58 v52
  let v60 : BitVec 32 := Scalar.addi v49 v59
  let c0_i32_25 : BitVec 32 := 0#32
  let c0_i32_26 : BitVec 32 := 0#32
  ![v60.toNat, c0_i32_25.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_11 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_12 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_13 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_14 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S8x2048x15360 : Shape := ⟨3, ![8, 2048, 15360]⟩
abbrev S8x2048x1024 : Shape := ⟨3, ![8, 2048, 1024]⟩
abbrev S8x2048x2048 : Shape := ⟨3, ![8, 2048, 2048]⟩
abbrev S8x2048 : Shape := ⟨2, ![8, 2048]⟩
abbrev S1024 : Shape := ⟨1, ![1024]⟩
abbrev S2x1024x2048 : Shape := ⟨3, ![2, 1024, 2048]⟩
abbrev S2x2048x2048 : Shape := ⟨3, ![2, 2048, 2048]⟩
abbrev S8x4x512x1024 : Shape := ⟨4, ![8, 4, 512, 1024]⟩
abbrev S8x1x512x1024 : Shape := ⟨4, ![8, 1, 512, 1024]⟩
abbrev S_ : Shape := ⟨0, ![]⟩
abbrev S1x1024x2048 : Shape := ⟨3, ![1, 1024, 2048]⟩
abbrev S1024x2048 : Shape := ⟨2, ![1024, 2048]⟩
abbrev S8x2048x1 : Shape := ⟨3, ![8, 2048, 1]⟩
abbrev S1x1x1024 : Shape := ⟨3, ![1, 1, 1024]⟩
abbrev S1x2048x2048 : Shape := ⟨3, ![1, 2048, 2048]⟩
abbrev S2048x2048 : Shape := ⟨2, ![2048, 2048]⟩
abbrev S8x1x2048 : Shape := ⟨3, ![8, 1, 2048]⟩
abbrev S16384x2048 : Shape := ⟨2, ![16384, 2048]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x15360, .bf16⟩
  | .hbm, ⟨1, _⟩ => ⟨S8x2048x1024, .bf16⟩
  | .hbm, ⟨2, _⟩ => ⟨S8x2048x1024, .bf16⟩
  | .hbm, ⟨3, _⟩ => ⟨S8x2048x1024, .f32⟩
  | .hbm, ⟨4, _⟩ => ⟨S8x2048x2048, .f32⟩
  | .hbm, ⟨5, _⟩ => ⟨S8x2048, .f32⟩
  | .hbm, ⟨6, _⟩ => ⟨S1024, .f32⟩
  | .hbm, ⟨7, _⟩ => ⟨S2x1024x2048, .bf16⟩
  | .hbm, ⟨8, _⟩ => ⟨S2x1024x2048, .bf16⟩
  | .hbm, ⟨9, _⟩ => ⟨S2x1024x2048, .bf16⟩
  | .hbm, ⟨10, _⟩ => ⟨S2x2048x2048, .bf16⟩
  | .hbm, ⟨11, _⟩ => ⟨S8x2048x15360, .f32⟩
  | .hbm, ⟨12, _⟩ => ⟨S8x2048x1024, .f32⟩
  | .hbm, ⟨13, _⟩ => ⟨S8x2048x1024, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x1024, .f32⟩
  | .hbm, ⟨18, _⟩ => ⟨S8x4x512x1024, .f32⟩
  | .hbm, ⟨19, _⟩ => ⟨S8x1x512x1024, .f32⟩
  | .hbm, ⟨20, _⟩ => ⟨S8x1x512x1024, .f32⟩
  | .hbm, ⟨21, _⟩ => ⟨S8x1x512x1024, .f32⟩
  | .hbm, ⟨22, _⟩ => ⟨S8x1x512x1024, .f32⟩
  | .hbm, ⟨23, _⟩ => ⟨S8x4x512x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1x1024x2048, .bf16⟩
  | .hbm, ⟨37, _⟩ => ⟨S1024x2048, .bf16⟩
  | .hbm, ⟨38, _⟩ => ⟨S1024x2048, .f32⟩
  | .hbm, ⟨39, _⟩ => ⟨S8x2048x2048, .f32⟩
  | .hbm, ⟨40, _⟩ => ⟨S1x1024x2048, .bf16⟩
  | .hbm, ⟨41, _⟩ => ⟨S1024x2048, .bf16⟩
  | .hbm, ⟨42, _⟩ => ⟨S1024x2048, .f32⟩
  | .hbm, ⟨43, _⟩ => ⟨S8x2048x2048, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S1x1024x2048, .bf16⟩
  | .hbm, ⟨71, _⟩ => ⟨S1024x2048, .bf16⟩
  | .hbm, ⟨72, _⟩ => ⟨S1024x2048, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048x2048, .f32⟩
  | .hbm, ⟨78, _⟩ => ⟨S8x2048x2048, .f32⟩
  | .hbm, ⟨79, _⟩ => ⟨S_, .f32⟩
  | .hbm, ⟨80, _⟩ => ⟨S8x2048x2048, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S_, .f32⟩
  | .hbm, ⟨99, _⟩ => ⟨S8x2048x2048, .f32⟩
  | .hbm, ⟨100, _⟩ => ⟨S8x2048x2048, .f32⟩
  | .hbm, ⟨101, _⟩ => ⟨S8x2048x2048, .f32⟩
  | .hbm, ⟨102, _⟩ => ⟨S8x2048x2048, .f32⟩
  | .hbm, ⟨103, _⟩ => ⟨S1x2048x2048, .bf16⟩
  | .hbm, ⟨104, _⟩ => ⟨S2048x2048, .bf16⟩
  | .hbm, ⟨105, _⟩ => ⟨S2048x2048, .f32⟩
  | .hbm, ⟨106, _⟩ => ⟨S8x2048x2048, .f32⟩
  | .hbm, ⟨107, _⟩ => ⟨S8x1x2048, .f32⟩
  | .hbm, ⟨108, _⟩ => ⟨S8x2048x2048, .f32⟩
  | .hbm, ⟨109, _⟩ => ⟨S8x2048x2048, .f32⟩
  | .hbm, ⟨110, _⟩ => ⟨S8x2048x2048, .f32⟩
  | .hbm, ⟨111, _⟩ => ⟨S16384x2048, .f32⟩
  | _, _ => ⟨S8x2048x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_v29 : Ref sig .tc := ⟨.hbm, 57, rfl⟩
abbrev main_cst_0 : Ref sig .tc := ⟨.hbm, 58, rfl⟩
abbrev main_v30 : Ref sig .tc := ⟨.hbm, 59, rfl⟩
abbrev main_v31 : Ref sig .tc := ⟨.hbm, 60, rfl⟩
abbrev main_cst_1 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_2 : Ref sig .tc := ⟨.hbm, 76, rfl⟩
abbrev main_v46 : Ref sig .tc := ⟨.hbm, 77, rfl⟩
abbrev main_v47 : Ref sig .tc := ⟨.hbm, 78, rfl⟩
abbrev main_cst_3 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_4 : Ref sig .tc := ⟨.hbm, 85, rfl⟩
abbrev main_v53 : Ref sig .tc := ⟨.hbm, 86, rfl⟩
abbrev main_v54 : Ref sig .tc := ⟨.hbm, 87, rfl⟩
abbrev main_cst_5 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_6 : Ref sig .tc := ⟨.hbm, 95, rfl⟩
abbrev main_v61 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel5.lean ====
abbrev S8x2048 : Shape := ⟨2, ![8, 2048]⟩
abbrev S2048 : Shape := ⟨1, ![2048]⟩
abbrev S2x2048x6144 : Shape := ⟨3, ![2, 2048, 6144]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S16x6144 : Shape := ⟨2, ![16, 6144]⟩
abbrev S1x2048x1024 : Shape := ⟨3, ![1, 2048, 1024]⟩
abbrev S16x1024 : Shape := ⟨2, ![16, 1024]⟩
abbrev S2048x1024 : Shape := ⟨2, ![2048, 1024]⟩

abbrev nBuf : Space → Nat
  | .hbm => 17
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x6144, .f32⟩
  | .hbm, ⟨3, _⟩ => ⟨S1x2048, .f32⟩
  | .hbm, ⟨4, _⟩ => ⟨S_, .f32⟩
  | .hbm, ⟨5, _⟩ => ⟨S7x2048, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x6144, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S16x1024, .f32⟩
  | .local _ .vmem, ⟨4, _⟩ => ⟨S16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8x2048 : Shape := ⟨2, ![8, 2048]⟩
abbrev S2048 : Shape := ⟨1, ![2048]⟩
abbrev S2x2048x6144 : Shape := ⟨3, ![2, 2048, 6144]⟩
abbrev S1x2048 : Shape := ⟨2, ![1, 2048]⟩
abbrev S9x2048 : Shape := ⟨2, ![9, 2048]⟩
abbrev S_ : Shape := ⟨0, ![]⟩
abbrev S1x2048x6144 : Shape := ⟨3, ![1, 2048, 6144]⟩
abbrev S2048x6144 : Shape := ⟨2, ![2048, 6144]⟩
abbrev S9x6144 : Shape := ⟨2, ![9, 6144]⟩
abbrev S7x6144 : Shape := ⟨2, ![7, 6144]⟩
abbrev S16x6144 : Shape := ⟨2, ![16, 6144]⟩

abbrev nBuf : Space → Nat
  | .hbm => 20
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x6144, .f32⟩
  | .hbm, ⟨3, _⟩ => ⟨S1x2048, .f32⟩
  | .hbm, ⟨4, _⟩ => ⟨S9x2048, .f32⟩
  | .hbm, ⟨5, _⟩ => ⟨S9x2048, .f32⟩
  | .hbm, ⟨6, _⟩ => ⟨S9x2048, .f32⟩
  | .hbm, ⟨7, _⟩ => ⟨S_, .f32⟩
  | .hbm, ⟨8, _⟩ => ⟨S9x2048, .f32⟩
  | .hbm, ⟨9, _⟩ => ⟨S9x2048, .f32⟩
  | .hbm, ⟨10, _⟩ => ⟨S_, .f32⟩
  | .hbm, ⟨11, _⟩ => ⟨S9x2048, .f32⟩
  | .hbm, ⟨12, _⟩ => ⟨S9x2048, .f32⟩
  | .hbm, ⟨13, _⟩ => ⟨S9x2048, .f32⟩
  | .hbm, ⟨14, _⟩ => ⟨S1x2048x6144, .f32⟩
  | .hbm, ⟨15, _⟩ => ⟨S2048x6144, .f32⟩
  | .hbm, ⟨16, _⟩ => ⟨S9x6144, .f32⟩
  | .hbm, ⟨17, _⟩ => ⟨S_, .f32⟩
  | .hbm, ⟨18, _⟩ => ⟨S7x6144, .f32⟩
  | .hbm, ⟨19, _⟩ => ⟨S16x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Proof.InprojRun.lean ====
/- The in_projection body run once, with what it leaves in each buffer named.

   The body holds a block of 1024 tokens and is visited six times per block. On the first visit it normalises the
   block into its scratch and multiplies it by the small weight; on every visit it multiplies the scratch by one
   block of the large weight. -/
module

public import proofs.«01_k».proof.Proof.Gen.Kernel2Ideal.Frame
public import proofs.«01_k».proof.Proof.Gen.Kernel2Ideal.Skeleton
public import Idealize.ShloMosaic.Lib.WritesUnit
public import Idealize.ShloMosaic.Lib.Pipeline.ValueKit

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

theorem zero2 : (![0, 0] : Fin 2 → ℕ) = fun _ => 0 := funext fun a => by fin_cases a <;> rfl
theorem zero3 : (![0, 0, 0] : Fin 3 → ℕ) = fun _ => 0 := funext fun a => by fin_cases a <;> rfl

/-- A store over the whole of a buffer leaves exactly what was stored, whatever was there. -/
theorem read_whole {κ : Kind} {sp : Space} {s : Shape} {e : EltTy} (v : View sig κ sp s e)
    (f : v.ty.Contents (Elt F)) {off : Fin s.rank → ℕ} (hz : off = fun _ => 0)
    (inb : ∀ a, off a + s.size a ≤ s.size a) (w : (Rect.unit off s.size inb).shape.Idx → Elt F e)
    (L : List (View.Piece (Elt F) s e)) :
    v.read (Elt F) (v.writes (Elt F) f ((⟨Rect.unit off s.size inb, w⟩ : View.Piece (Elt F) s e) :: L)) = w :=
  funext fun y => View.read_writes_cons_unit_of_mem v f inb w L y y hz fun _ => (Nat.zero_add _).symm

/-- Every index is in the rectangle that is the whole buffer. -/
theorem mem_whole {s : Shape} {off : Fin s.rank → ℕ} (hz : off = fun _ => 0) (inb : ∀ a, off a + s.size a ≤ s.size a)
    (y : s.Idx) : y ∈ (Rect.unit off s.size inb).set := by
  subst hz
  exact Rect.mem_set_unit.mpr fun a => ⟨Nat.zero_le _, (y a).isLt.trans_eq (Nat.zero_add _).symm⟩

/-- The first visit to a block of tokens. -/
abbrev First (i : grid0.Coords) : Prop := k0_cond1 i = 1#1

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2560x2048 .bf16) (harg6 : arg6.IsWhole) (arg7 : Memref sig .tc .vmem S1x128x2048 .bf16) (harg7 : arg7.IsWhole)
  (arg8 : Memref sig .tc .vmem S1024x2560 .bf16) (harg8 : arg8.IsWhole) (arg9 : Memref sig .tc .vmem S1024x128 .f32) (harg9 : arg9.IsWhole)
  (arg10 : Memref sig .tc .vmem S1024x2048 .bf16) (harg10 : arg10.IsWhole)
  (x0 : Vec F S1024x2048 .f32) (x1 : Vec F S1x2048 .f32) (x2 : Vec F S1x1x2048 .f32) (x3 : Vec F S1x1x2048 .f32)
  (x4 : Vec F S1x2560x2048 .bf16) (x5 : Vec F S1x128x2048 .bf16)

/-- The six input buffers at their contents. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

set_option maxHeartbeats 1000000 in
/-- The first visit: the scratch ends at the normalised block, both outputs at its products. -/
theorem run_first (h : First i) (E : Set ℕ) (K : PUnit → sProp 𝕄) :
    iprop(ins c arg2 arg3 arg4 arg5 arg6 arg7 x0 x1 x2 x3 x4 x5 ∗ (∃ d, owns (c : Thread nD τ) arg8 fullShare d)
        ∗ (∃ d, owns (c : Thread nD τ) arg9 fullShare d) ∗ (∃ d, owns (c : Thread nD τ) arg10 fullShare d)
        ∗ (iprop(ins c arg2 arg3 arg4 arg5 arg6 arg7 x0 x1 x2 x3 x4 x5
            ∗ owns (c : Thread nD τ) arg8 fullShare (k0_pay4 (k0_pay2 x0 x1 x2 x3) x4)
            ∗ owns (c : Thread nD τ) arg9 fullShare (k0_pay3 x0 x1 x2 x3 x5)
            ∗ owns (c : Thread nD τ) arg10 fullShare (k0_pay2 x0 x1 x2 x3)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h)
  sl_step
  iapply Hk
  isplitl [H0 H1 H2 H3 H4 H5]
  · isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    iexists _; isplitr; swap; (· iexact H5); ipureintro; exact harg7.read_unread _
  isplitl [H6]
  · iexists _; isplitr; swap; (· iexact H6)
    ipureintro
    sl_unfold_words
    rw [read_whole _ _ zero2]
    simp only [View.readAt_eq_ld, harg2.read_unread, harg3.read_unread, harg4.read_unread, harg5.read_unread, harg6.read_unread, View.ld_unit_zero (S := S1024x2048) zero2, View.ld_unit_zero (S := S1x2048) zero2,
      View.ld_unit_zero (S := S1x1x2048) zero3, View.ld_unit_zero (S := S1x2560x2048) zero3, View.ld_unit_zero (S := S1x128x2048) zero3]
    rw [View.readCov_eq_canon_ld, View.canon_unit_zero zero2, View.ld_unit_zero (S := S1024x2048) zero2]
    exact fun y => ⟨_, List.mem_cons_self .., mem_whole zero2 inb_S1024x2048_S1024x2048_0_0 y⟩
  isplitl [H7]
  · iexists _; isplitr; swap; (· iexact H7)
    ipureintro
    sl_unfold_words
    rw [read_whole _ _ zero2]
    simp only [View.readAt_eq_ld, harg2.read_unread, harg3.read_unread, harg4.read_unread, harg5.read_unread, harg7.read_unread, View.ld_unit_zero (S := S1024x2048) zero2, View.ld_unit_zero (S := S1x2048) zero2,
      View.ld_unit_zero (S := S1x1x2048) zero3, View.ld_unit_zero (S := S1x2560x2048) zero3, View.ld_unit_zero (S := S1x128x2048) zero3]
  iexists _; isplitr; swap; (· iexact HS0)
  ipureintro
  sl_unfold_words
  rw [read_whole _ _ zero2]
  simp only [View.readAt_eq_ld, harg2.read_unread, harg3.read_unread, harg4.read_unread, harg5.read_unread, View.ld_unit_zero (S := S1024x2048) zero2, View.ld_unit_zero (S := S1x2048) zero2,
      View.ld_unit_zero (S := S1x1x2048) zero3, View.ld_unit_zero (S := S1x2560x2048) zero3, View.ld_unit_zero (S := S1x128x2048) zero3]

set_option maxHeartbeats 1000000 in
/-- A later visit: the scratch is read and kept, and the main output ends at its product with this visit's weights. -/
theorem run_later (h : ¬First i) (xs : Vec F S1024x2048 .bf16) (E : Set ℕ) (K : PUnit → sProp 𝕄) :
    iprop(owns (c : Thread nD τ) arg6 fullShare x4 ∗ (∃ d, owns (c : Thread nD τ) arg8 fullShare d) ∗ owns (c : Thread nD τ) arg10 fullShare xs
        ∗ (iprop(owns (c : Thread nD τ) arg6 fullShare x4 ∗ owns (c : Thread nD τ) arg8 fullShare (k0_pay4 xs x4)
            ∗ owns (c : Thread nD τ) arg10 fullShare xs) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel owns
  iintro ⟨⟨%f4, %hf4, H4⟩, ⟨%d6, %f6, -, H6⟩, ⟨%fs0, %hfs0, HS0⟩, Hk⟩
  obtain rfl := harg6.eq_unread hf4; obtain rfl := harg10.eq_unread hfs0
  sl_exec (disch := first | sl_exact h)
  sl_step
  iapply Hk
  isplitl [H4]; · iexists _; isplitr; swap; (· iexact H4); ipureintro; exact harg6.read_unread _
  isplitl [H6]
  · iexists _; isplitr; swap; (· iexact H6)
    ipureintro
    sl_unfold_words
    rw [read_whole _ _ zero2]
    simp only [View.readAt_eq_ld, harg6.read_unread, harg10.read_unread, View.ld_unit_zero (S := S1024x2048) zero2, View.ld_unit_zero (S := S1x2048) zero2,
      View.ld_unit_zero (S := S1x1x2048) zero3, View.ld_unit_zero (S := S1x2560x2048) zero3, View.ld_unit_zero (S := S1x128x2048) zero3]
  iexists _; isplitr; swap; (· iexact HS0)
  ipureintro; exact harg10.read_unread _

end Cert.Inproj

end
-- ==== Proof.InprojFrame.lean ====
/- The in_projection call run from end to end: what every visit leaves, and from it the whole program's run.

   All six visits to a block of tokens see the same tokens, so "the normalised block" can be written from any of
   them: that is what the scratch holds between visits, and what the small output's buffer keeps until it is
   written back after the sixth. -/
module

public import proofs.«01_k».proof.Proof.InprojRun
public import proofs.«01_k».proof.Proof.Gen.Kernel2Ideal.Points
public import Idealize.ShloMosaic.Lib.Pipeline.FrameBody

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first visits are the points divisible by six. -/
theorem first_iff (t : Fin cfg0.N) : First (grid0.coords t) ↔ t.val % 6 = 0 := by
  have ht : t.val < 96 := Nat.lt_of_lt_of_eq t.isLt N_0
  have e0 : (grid0.coords t 0).val = t.val / 6 % 16 := Pipeline.Grid.coords_val t 0 (by decide) rfl
  have e1 : (grid0.coords t 1).val = t.val / 1 % 6 := Pipeline.Grid.coords_val t 1 (by decide) rfl
  simp only [First, k0_cond1, e0, e1]
  word_cmp

/-- The block of tokens at a point, normalised. -/
def normed (t : Fin cfg0.N) : Vec F S1024x2048 .bf16 := k0_pay2 (iblk m c 0 t) (iblk m c 1 t) (iblk m c 2 t) (iblk m c 3 t)
/-- Its product with the point's block of the large weight. -/
def main (t : Fin cfg0.N) : Vec F S1024x2560 .bf16 := k0_pay4 (normed m c t) (iblk m c 4 t)
/-- Its product with the small weight. -/
def small (t : Fin cfg0.N) : Vec F S1024x128 .f32 := k0_pay3 (iblk m c 0 t) (iblk m c 1 t) (iblk m c 2 t) (iblk m c 3 t) (iblk m c 5 t)

/-- The scratch buffer. -/
abbrev scr : Memref sig .tc .vmem S1024x2048 .bf16 := Memref.whole cc0_scratch0

/-- The scratch at some contents, as the region is handed it. -/
theorem start_eq :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Between visits: before the first the scratch holds anything, afterwards the last visit's normalised block. -/
def between : (n : ℕ) → n ≤ cfg0.N → sProp 𝕄
  | 0, _ => Pipeline.ΦA spec0 c
  | n + 1, hn => iprop(owns (c : Thread nD τ) scr fullShare (normed m c ⟨n, hn⟩) ∗ (∃ r, prngReg c r))

theorem between_pos (n : ℕ) (h : n ≤ cfg0.N) (hz : n ≠ 0) :
    between m c n h = iprop(owns (c : Thread nD τ) scr fullShare (normed m c ⟨n - 1, by omega⟩) ∗ (∃ r, prngReg c r)) := by
  cases n with
  | zero => exact absurd rfl hz
  | succ n => rfl

/-- At any moment the scratch can be forgotten. -/
theorem between_start (n : ℕ) (h : n ≤ cfg0.N) : between m c n h ⊢ (Pipeline.ΦA spec0 c : sProp 𝕄) := by
  cases n with
  | zero => exact Idealize.SL.BI.Entails.refl _
  | succ n =>
    rw [start_eq]
    show iprop(owns (c : Thread nD τ) scr fullShare (normed m c ⟨n, h⟩) ∗ (∃ r, prngReg c r)) ⊢ _
    iintro ⟨HS, Hg⟩
    isplitl [HS]
    · iexists _; iexact HS
    iexact Hg

/-- What the pipeline's proof is about: each input's buffer keeps its block, the outputs' buffers hold the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => main m c t
    | ⟨7, _⟩ => small m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem before0 (t : Fin cfg0.N) (d) : (dats m 0 c).before 0 t d = iblk m c 0 t := before0_0_of m (dats m 0 c) (A_eq m c 0) (fun _ => by dsimp only [dats]) t d
theorem before1 (t : Fin cfg0.N) (d) : (dats m 0 c).before 1 t d = iblk m c 1 t := before0_1_of m (dats m 0 c) (A_eq m c 1) (fun _ => by dsimp only [dats]) t d
theorem before2 (t : Fin cfg0.N) (d) : (dats m 0 c).before 2 t d = iblk m c 2 t := before0_2_of m (dats m 0 c) (A_eq m c 2) (fun _ => by dsimp only [dats]) t d
theorem before3 (t : Fin cfg0.N) (d) : (dats m 0 c).before 3 t d = iblk m c 3 t := before0_3_of m (dats m 0 c) (A_eq m c 3) (fun _ => by dsimp only [dats]) t d
theorem before4 (t : Fin cfg0.N) (d) : (dats m 0 c).before 4 t d = iblk m c 4 t := before0_4_of m (dats m 0 c) (A_eq m c 4) (fun _ => by dsimp only [dats]) t d
theorem before5 (t : Fin cfg0.N) (d) : (dats m 0 c).before 5 t d = iblk m c 5 t := before0_5_of m (dats m 0 c) (A_eq m c 5) (fun _ => by dsimp only [dats]) t d

/-- The point before. -/
abbrev prev (t : Fin cfg0.N) : Fin cfg0.N := ⟨t.val - 1, Nat.lt_of_le_of_lt (Nat.sub_le _ _) t.isLt⟩

section Same

variable (t : Fin cfg0.N) (h : t.val % 6 ≠ 0)
include h

/-- A block not fetched again is the block of the visit before. -/
theorem same0 : iblk m c 0 t = iblk m c 0 (prev t) :=
  (before0 m c t (iblk m c 0 t)).symm.trans (((dats m 0 c).before_unfetched_in 0 rfl t
    (Bool.eq_false_iff.mpr fun e => h ((fetch0_0 t).mp e)) (fun _ => rfl) (iblk m c 0 t)).trans (by unfold Dat.kept; dsimp only [dats]; rfl))
theorem same1 : iblk m c 1 t = iblk m c 1 (prev t) :=
  (before1 m c t (iblk m c 1 t)).symm.trans (((dats m 0 c).before_unfetched_in 1 rfl t
    (Bool.eq_false_iff.mpr fun e => h (by have := (fetch0_1 t).mp e; omega)) (fun _ => rfl) (iblk m c 1 t)).trans (by unfold Dat.kept; dsimp only [dats]; rfl))
theorem same2 : iblk m c 2 t = iblk m c 2 (prev t) :=
  (before2 m c t (iblk m c 2 t)).symm.trans (((dats m 0 c).before_unfetched_in 2 rfl t
    (Bool.eq_false_iff.mpr fun e => h (by have := (fetch0_2 t).mp e; omega)) (fun _ => rfl) (iblk m c 2 t)).trans (by unfold Dat.kept; dsimp only [dats]; rfl))
theorem same3 : iblk m c 3 t = iblk m c 3 (prev t) :=
  (before3 m c t (iblk m c 3 t)).symm.trans (((dats m 0 c).before_unfetched_in 3 rfl t
    (Bool.eq_false_iff.mpr fun e => h (by have := (fetch0_3 t).mp e; omega)) (fun _ => rfl) (iblk m c 3 t)).trans (by unfold Dat.kept; dsimp only [dats]; rfl))
theorem same5 : iblk m c 5 t = iblk m c 5 (prev t) :=
  (before5 m c t (iblk m c 5 t)).symm.trans (((dats m 0 c).before_unfetched_in 5 rfl t
    (Bool.eq_false_iff.mpr fun e => h (by have := (fetch0_5 t).mp e; omega)) (fun _ => rfl) (iblk m c 5 t)).trans (by unfold Dat.kept; dsimp only [dats]; rfl))

/-- So are the normalised block and the small product. -/
theorem normed_prev : normed m c (prev t) = normed m c t := by
  unfold normed; rw [same0 m c t h, same1 m c t h, same2 m c t h, same3 m c t h]

theorem small_prev : small m c (prev t) = small m c t := by
  unfold small; rw [same0 m c t h, same1 m c t h, same2 m c t h, same3 m c t h, same5 m c t h]

end Same

/-- The small output is stored at first visits only. -/
theorem idle_iff (t : Fin cfg0.N) : cfg0.idle 7 (cfg0.grid.coords t) = true ↔ t.val % 6 ≠ 0 := by
  rw [← not_iff_not, not_not, ← first_iff t]
  show ¬ ((!(k0_cond1 (grid0.coords t) == 1#1)) = true) ↔ First (grid0.coords t)
  rw [Bool.not_eq_true', Bool.not_eq_false, beq_iff_eq]

/-- On a later visit its buffer still holds its product. -/
theorem before7 : ∀ (n : ℕ) (t : Fin cfg0.N), t.val = n → t.val % 6 ≠ 0 → ∀ d, (dats m 0 c).before 7 t d = small m c t
  | 0, t, e, h, d => absurd (by rw [e]) h
  | n + 1, t, e, h, d => by
    have hf : (cfg0.win 7).flush (prev t) = false := Bool.eq_false_iff.mpr fun q => h (by
      have := (flush0_7 (prev t)).mp q; simp only [prev] at this; omega)
    refine ((dats m 0 c).before_of_pos 7 t (fun q => h (by rw [q])) ((cfg0.win 7).fetch_out rfl t) d).trans ?_
    rw [show (cfg0.win 7).flush ⟨t.val - 1, _⟩ = false from hf, if_neg Bool.false_ne_true, ← small_prev m c t h]
    unfold Dat.left
    by_cases hp : (prev t).val % 6 = 0
    · rw [show cfg0.idle 7 (cfg0.grid.coords ⟨t.val - 1, _⟩) = false from Bool.eq_false_iff.mpr fun q => (idle_iff (prev t)).mp q hp]
      unfold Dat.kept
      dsimp only [dats]
      rfl
    · rw [show cfg0.idle 7 (cfg0.grid.coords ⟨t.val - 1, _⟩) = true from (idle_iff (prev t)).mpr hp]
      exact before7 n (prev t) (by simp only [prev]; omega) hp d

/-- What the body is called with. -/
def pre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def post (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem after_in0 (t : Fin cfg0.N) : (dats m 0 c).after 0 t = iblk m c 0 t := by dsimp only [dats]
theorem after_in1 (t : Fin cfg0.N) : (dats m 0 c).after 1 t = iblk m c 1 t := by dsimp only [dats]
theorem after_in2 (t : Fin cfg0.N) : (dats m 0 c).after 2 t = iblk m c 2 t := by dsimp only [dats]
theorem after_in3 (t : Fin cfg0.N) : (dats m 0 c).after 3 t = iblk m c 3 t := by dsimp only [dats]
theorem after_in4 (t : Fin cfg0.N) : (dats m 0 c).after 4 t = iblk m c 4 t := by dsimp only [dats]
theorem after_in5 (t : Fin cfg0.N) : (dats m 0 c).after 5 t = iblk m c 5 t := by dsimp only [dats]
theorem after_main (t : Fin cfg0.N) : (dats m 0 c).after 6 t = main m c t := by dsimp only [dats]
theorem after_small (t : Fin cfg0.N) : (dats m 0 c).after 7 t = small m c t := by dsimp only [dats]

theorem inv_now (t : Fin cfg0.N) : (dats m 0 c).Φ t.castSucc = between m c t.val (Nat.le_of_lt t.isLt) := by
  dsimp only [dats]; exact Pipeline.Dat.Φ_castSucc (between m c) t

theorem inv_next (t : Fin cfg0.N) : (dats m 0 c).Φ t.succ = iprop(owns (c : Thread nD τ) scr fullShare (normed m c t) ∗ (∃ r, prngReg c r)) := by
  dsimp only [dats]; rfl

set_option maxHeartbeats 4000000 in
/-- The body at any point, by its two runs. -/
theorem body (t : Fin cfg0.N) :
    pre m c t ⊢ wp frame (wpE (defs₀ (F := F)) Variants.none c none) Set.univ (bodyAt0 t) (fun _ => post m c t) := by
  unfold pre post bodyAt0
  simp only [before0, before1, before2, before3, before4, before5]
  rw [show (dats m 0 c).owesAt () t.succ = (dats m 0 c).owesAt () t.castSucc from rfl,
    after_in0, after_in1, after_in2, after_in3, after_in4, after_in5, after_main, after_small, inv_next, inv_now]
  by_cases h : t.val % 6 = 0
  · have hs := between_start m c t.val (Nat.le_of_lt t.isLt)
    rw [start_eq] at hs
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ := hs $$ HΦ
    icases HΦ with ⟨HS, Hg⟩
    iapply (run_first c (grid0.coords t) _ _ _ _ _ _ _ _ _ _ _ _ _ _ _ _ _ _ (iblk m c 0 t) (iblk m c 1 t) (iblk m c 2 t) (iblk m c 3 t) (iblk m c 4 t) (iblk m c 5 t) ((first_iff t).mpr h) Set.univ _)
    unfold ins
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS]; · iexact HS
    iintro ⟨⟨H0, H1, H2, H3, H4, H5⟩, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before7 m c _ t rfl h]
    rw [between_pos m c _ _ (fun e => h (by rw [e])), show normed m c ⟨t.val - 1, _⟩ = normed m c t from normed_prev m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (iblk m c 4 t) (fun e => h ((first_iff t).mp e)) (normed m c t) Set.univ _)
    isplitl [H4]; · iexact H4
    isplitl [H6]; · iexists _; iexact H6
    isplitl [HS]; · iexact HS
    iintro ⟨H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row (t : Fin cfg0.N) : defs₀ (F := F) .tc cfg0.body (cfg0.bodyArgs t (cfg0.slots t)) = bodyAt0 t := by
  unfold defs₀; rw [Defs.onTc_tc]

/-- What a visit leaves in the small output's buffer, as the pipeline asks for it. -/
theorem settle (t : Fin cfg0.N) : owns (c : Thread nD τ) (st0_7 t) fullShare ((dats m 0 c).after 7 t) ⊢ ((dats m 0 c).leavesExact 7 t : sProp 𝕄) := by
  by_cases h : t.val % 6 = 0
  · unfold Dat.leavesExact
    rw [Bool.eq_false_iff.mpr fun q => (idle_iff t).mp q h]
  · by_cases hf : (cfg0.win 7).flush t = true
    · unfold Dat.leavesExact
      rw [(idle_iff t).mpr h, hf]
    · rw [(dats m 0 c).leavesExact_idle 7 t ((idle_iff t).mpr h) (Bool.eq_false_iff.mpr hf)]
      simp only [before7 m c _ t rfl h]
      rw [after_small]
      iintro H
      iexists (small m c t)
      iexact H

theorem obligation : BodyObligation (dats (F := F) m 0 c) (defs₀ (F := F)) Variants.none () Set.univ := fun t => by
  rw [bigSep_W0, bigSep_W0, row]
  refine triple_restated (body m c t) rfl .rfl fun _ => ?_
  unfold post
  exact sep_mono .rfl (sep_mono .rfl (sep_mono .rfl (sep_mono .rfl (sep_mono .rfl (sep_mono .rfl (sep_mono .rfl (sep_mono .rfl (sep_mono .rfl (settle m c t)))))))))

theorem enter : Pipeline.ΦA spec0 c ⊢ (dats m 0 c).Φ 0 := by
  rw [show (dats m 0 c).Φ 0 = Pipeline.ΦA spec0 c from rfl]

theorem leave : (dats m 0 c).Φ (Fin.last cfg0.N) ⊢ Pipeline.ΦA spec0 c := by
  dsimp only [dats]
  exact between_start m c _ _

set_option backward.isDefEq.respectTransparency.types false in
/-- The whole program's run: every array ends as the visits left it, and no semaphore is left raised. -/
theorem run : θ_run defs (onTc (τ := τ) (Kernel2Ideal.main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ Kernel2Ideal.main
    (hbody := fun c => (obligation m c).loose) (hshare := fun _ _ => by unfold Dat.share; split <;> rfl)
    (howed := fun _ _ => rfl) (V := V m) (hmain := hmain m Variants.none) (hA := A_eq m) (hin := enter m) (hout := leave m)

/-- The arguments end unchanged. -/
theorem frame : θ_run defs (onTc (τ := τ) (Kernel2Ideal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Inproj

end
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.Gen.Kernel2
public import proofs.«01_k».proof.Proof.InprojFrame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import Idealize.ShloMosaic.Lib.Quiescent

@[expose] public section

/-!
# What every program of the claim leaves alone: its arguments, and its semaphores at zero
-/

noncomputable section

namespace Cert.Frames

open Idealize.ShloMosaic Idealize.ShloMosaic.TcCoe Idealize.SL.Sem

theorem kernel : Cert.quiescent_Kernel (hKernel := Cert.Kernel.Gen.facts) := fun m ρ _ => Cert.Kernel.Gen.frame m ρ
theorem kernelIdeal : Cert.quiescent_KernelIdeal (hKernelIdeal := Cert.KernelIdeal.Gen.facts) := fun m ρ _ => Cert.KernelIdeal.Gen.frame m ρ
theorem kernelIdeal_finite : Cert.quiescent_KernelIdeal_pre_finite (hKernelIdeal := Cert.KernelIdeal.Gen.facts) (hPre_finite := Cert.Pre_finite.Gen.facts) :=
  fun m ρ _ => kernelIdeal m ρ trivial
theorem referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem referenceIdeal_finite : Cert.quiescent_ReferenceIdeal_pre_finite (hReferenceIdeal := Cert.ReferenceIdeal.Gen.facts) (hPre_finite := Cert.Pre_finite.Gen.facts) :=
  fun m ρ _ => referenceIdeal m ρ trivial

section Inproj

variable {F : FTy → Type} [FloatOps F]

/-- The input projection's two programs have one body table, -/
theorem bodies_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rfl

theorem defs_eq : Cert.Kernel2.defs (F := F) = Cert.Kernel2Ideal.defs (F := F) :=
  congrArg (Pipeline.defs Cert.Kernel2Ideal.pcfgs) bodies_eq

end Inproj

/-- so the one run gives both frames. -/
theorem kernel2 : Cert.quiescent_Kernel2 (hKernel2 := Cert.Kernel2.Gen.facts) := fun m ρ _ => by
  rw [defs_eq]
  exact Cert.Inproj.frame (F := Bits) m ρ
theorem kernel2Ideal : Cert.quiescent_Kernel2Ideal (hKernel2Ideal := Cert.Kernel2Ideal.Gen.facts) := fun m ρ _ => Cert.Inproj.frame m ρ
theorem reference2Ideal : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem kernel3 : Cert.quiescent_Kernel3 (hKernel3 := Cert.Kernel3.Gen.facts) := fun m ρ _ => Cert.Kernel3.Gen.frame m ρ
theorem kernel3Ideal : Cert.quiescent_Kernel3Ideal (hKernel3Ideal := Cert.Kernel3Ideal.Gen.facts) := fun m ρ _ => Cert.Kernel3Ideal.Gen.frame m ρ
theorem reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)
theorem kernel4 : Cert.quiescent_Kernel4 (hKernel4 := Cert.Kernel4.Gen.facts) := fun m ρ _ => Cert.Kernel4.Gen.frame m ρ
theorem kernel4Ideal : Cert.quiescent_Kernel4Ideal (hKernel4Ideal := Cert.Kernel4Ideal.Gen.facts) := fun m ρ _ => Cert.Kernel4Ideal.Gen.frame m ρ
theorem reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)
theorem kernel5 : Cert.quiescent_Kernel5 (hKernel5 := Cert.Kernel5.Gen.facts) := fun m ρ _ => Cert.Kernel5.Gen.frame m ρ
theorem kernel5Ideal : Cert.quiescent_Kernel5Ideal (hKernel5Ideal := Cert.Kernel5Ideal.Gen.facts) := fun m ρ _ => Cert.Kernel5Ideal.Gen.frame m ρ
theorem reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Frames
-- ==== Proof.Softmax.lean ====
module

public import Idealize.ShloMosaic.PureOps.Ideal

@[expose] public section

/-!
# The arithmetic of a softmax row

Over the extended reals and with no program in sight: a softmax does not depend on the real number that its scores are
shifted by, and dividing each weight before the weighted sum is dividing the weighted sum.
-/

noncomputable section

namespace Cert.Ctx

open Idealize.ShloMosaic
open scoped BigOperators

/-- The values `ν` averaged with the exponentials of the scores `σ` as weights. -/
def avg {n : ℕ} (σ ν : Fin n → ℝ) : ℝ := (∑ k, Real.exp (σ k) * ν k) / ∑ k, Real.exp (σ k)

/-- A finite sum of reals, taken in the extended reals. -/
theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The exponential of a shifted score is the exponential of the score, up to one positive factor. -/
theorem exp_shift (x M : ℝ) : Ideal.exp ((x : EReal) - (M : EReal)) = ((Real.exp (-M) * Real.exp x : ℝ) : EReal) := by
  rw [← EReal.coe_sub, Ideal.exp_coe, sub_eq_add_neg, Real.exp_add, mul_comm]

section
variable {n : ℕ} (σ ν : Fin (n + 1) → ℝ) (M : ℝ)

theorem weights_pos : 0 < ∑ k, Real.exp (σ k) := Finset.sum_pos (fun k _ => Real.exp_pos _) Finset.univ_nonempty

theorem weights_shift : ∑ k, Ideal.exp ((σ k : EReal) - (M : EReal)) = ((Real.exp (-M) * ∑ k, Real.exp (σ k) : ℝ) : EReal) := by
  simp only [exp_shift, sum_coe, Finset.mul_sum]

theorem weights_ne : Real.exp (-M) * ∑ k, Real.exp (σ k) ≠ 0 := (mul_pos (Real.exp_pos _) (weights_pos σ)).ne'

/-- The weighted sum first, one division after. -/
theorem after : Ideal.div (∑ k, Ideal.exp ((σ k : EReal) - (M : EReal)) * (ν k : EReal)) (∑ k, Ideal.exp ((σ k : EReal) - (M : EReal)))
    = ((avg σ ν : ℝ) : EReal) := by
  have hM := (Real.exp_pos (-M)).ne'
  have hS := (weights_pos σ).ne'
  rw [weights_shift, Ideal.div_coe (weights_ne σ M)]
  have e : ∑ k, Real.exp (-M) * Real.exp (σ k) * ν k = Real.exp (-M) * ∑ k, Real.exp (σ k) * ν k := by
    rw [Finset.mul_sum]
    exact Finset.sum_congr rfl fun k _ => mul_assoc _ _ _
  simp only [exp_shift, ← EReal.coe_mul, sum_coe]
  refine congrArg _ ?_
  rw [e]
  unfold avg
  field_simp

/-- Every weight divided first. -/
theorem before : ∑ k, (ν k : EReal) * Ideal.div (Ideal.exp ((σ k : EReal) - (M : EReal))) (∑ k, Ideal.exp ((σ k : EReal) - (M : EReal)))
    = ((avg σ ν : ℝ) : EReal) := by
  have hM := (Real.exp_pos (-M)).ne'
  have hS := (weights_pos σ).ne'
  rw [weights_shift]
  simp only [Ideal.div_coe (weights_ne σ M), exp_shift, ← EReal.coe_mul, sum_coe]
  refine congrArg _ ?_
  unfold avg
  rw [Finset.sum_div]
  refine Finset.sum_congr rfl fun k _ => ?_
  field_simp

/-- The largest of the scores, and of a number that is no more than any, is a real number. -/
theorem top_real : ∃ M : ℝ, (Finset.univ : Finset (Fin (n + 1))).fold max (⊥ : EReal) (fun k => (σ k : EReal)) = (M : EReal) := by
  have h0 : (Finset.univ : Finset (Fin (n + 1))).fold max (⊥ : EReal) (fun k => (σ k : EReal)) ≠ ⊥ := fun h =>
    EReal.coe_ne_bot (σ 0) (le_bot_iff.mp (h ▸ (Finset.le_fold_max _).mpr (.inr ⟨0, Finset.mem_univ _, le_rfl⟩)))
  have h1 : (Finset.univ : Finset (Fin (n + 1))).fold max (⊥ : EReal) (fun k => (σ k : EReal)) ≠ ⊤ :=
    ((Finset.fold_max_lt _).mpr ⟨bot_lt_top, fun k _ => EReal.coe_lt_top _⟩).ne
  exact ⟨_, (EReal.coe_toReal h1 h0).symm⟩

end

end Cert.Ctx

end
-- ==== Proof.CtxRow.lean ====
module

public import proofs.«01_k».proof.Proof.Softmax
public import Idealize.ShloMosaic.PureOps.Ideal.Laws
public import Idealize.ShloMosaic.Lib.IdealHost

@[expose] public section

/-!
# One context query's attention, as the kernel writes it and as the reference writes it
-/

noncomputable section

namespace Cert.Ctx

open Idealize.ShloMosaic
open scoped BigOperators

/-- One query of one head, all the keys of the head, and one column of its values. -/
structure Head where
  q : Fin 128 → EReal
  k : Fin 256 → Fin 128 → EReal
  v : Fin 256 → EReal

namespace Head
variable (H : Head)

/-- The scaled score of key `x`. -/
def score (x : Fin 256) : EReal := (∑ y, H.q y * H.k x y) * Ideal.ofBits .f32 0x3DB504F3#32

/-- The largest score. -/
def top : EReal := Finset.univ.fold max (Ideal.ofBits .f32 0xFF800000#32) H.score

def weight (x : Fin 256) : EReal := Ideal.exp (H.score x - H.top)

/-- The kernel's result: the weighted sum of the values, over the sum of the weights. -/
def out : EReal := Ideal.div (∑ x, H.weight x * H.v x) (∑ x, H.weight x)

/-- The reference's weights: its softmax takes the larger of `-∞` and the largest score. -/
def weight' (x : Fin 256) : EReal := Ideal.exp (H.score x - max (Ideal.ofBits .f32 0xFF800000#32) H.top)

/-- The reference's result: the weights are divided first. -/
def out' : EReal := ∑ x, H.v x * Ideal.div (H.weight' x) (∑ x, H.weight' x)

/-- Every number in sight is a real. -/
structure Real : Prop where
  q : ∀ y, ∃ r : ℝ, H.q y = (r : EReal)
  k : ∀ x y, ∃ r : ℝ, H.k x y = (r : EReal)
  v : ∀ x, ∃ r : ℝ, H.v x = (r : EReal)

end Head

theorem lowest : Ideal.ofBits .f32 0xFF800000#32 = (⊥ : EReal) := by simp [Ideal.ofBits, Ideal.ieee]

theorem scale_real : ∃ r : ℝ, Ideal.ofBits .f32 0x3DB504F3#32 = (r : EReal) := by
  simp [Ideal.ofBits, Ideal.ieee]
  exact ⟨_, rfl⟩

variable (H : Head)

theorem score_real (h : H.Real) : ∃ σ : Fin 256 → ℝ, ∀ x, H.score x = (σ x : EReal) := by
  obtain ⟨c, hc⟩ := scale_real
  choose q hq using h.q
  choose k hk using h.k
  refine ⟨fun x => (∑ y, q y * k x y) * c, fun x => ?_⟩
  unfold Head.score
  simp only [hq, hk, hc, ← EReal.coe_mul, sum_coe]

/-- On reals the two are one and the same average. -/
theorem out_eq (h : H.Real) : H.out = H.out' := by
  obtain ⟨σ, hσ⟩ := score_real H h
  choose ν hν using h.v
  obtain ⟨M, hM⟩ := top_real (n := 255) σ
  have ht : H.top = (M : EReal) := by
    unfold Head.top
    rw [lowest, show H.score = fun x => (σ x : EReal) from funext hσ]
    exact hM
  unfold Head.out Head.out' Head.weight Head.weight'
  rw [lowest, ht, max_eq_right bot_le]
  simp only [hσ, hν]
  exact (after σ ν M).trans (before σ ν M).symm

end Cert.Ctx

end
-- ==== Proof.CtxHead.lean ====
module

public import proofs.«01_k».proof.Proof.CtxRow
public import proofs.«01_k».proof.Proof.Gen.KernelIdeal.Value
public import Idealize.ShloMosaic.Lib.Pointwise

@[expose] public section

/-!
# The context's attention: what one grid point stores

A grid point takes two heads; for each it stores one half of the columns of the context's block.
-/

set_option maxRecDepth 65536
set_option maxHeartbeats 0

noncomputable section

namespace Cert.Ctx

open Cert.KernelIdeal Cert.KernelIdeal.Gen Idealize.ShloMosaic

/-- One head's result, from its keys, values and queries. -/
def head {F : FTy → Type} [FloatOps F] (k v q : Vec F S1x256x128 .bf16) : Vec F S1x256x128 .bf16 :=
  k0_pay489 (k0_pay488 (k0_pay140 k) (k0_pay141 v) q)

theorem head_apply (k v q : Vec Ideal S1x256x128 .bf16) (r : Fin 256) (d : Fin 128) :
    head (F := Ideal) k v q (ix3 0 r d)
      = Head.out ⟨fun y => q (ix3 0 r y), fun x y => k (ix3 0 x y), fun x => v (ix3 0 x d)⟩ := by
  unfold head
  pointwise [k0_pay489, k0_pay488, k0_pay140, k0_pay141]
  rfl

/-- The columns of head `o / 128` of the block. -/
abbrev cols (o : ℕ) (h : ∀ a, (![0, 0, o] : Fin 3 → ℕ) a + S1x256x128.size a ≤ S1x256x256.size a) : Rect S1x256x256 :=
  Rect.unit (s := S1x256x256) ![0, 0, o] S1x256x128.size h

/-- What the two stores of a grid point leave. -/
abbrev stored (x3 x4 x6 : S1x256x256.Idx → EReal) : List (View.Piece (Elt Ideal) S1x256x256 .bf16) :=
  [⟨cols 128 inb_S1x256x256_S1x256x128_0_0_128, head (F := Ideal) (View.ld (Val := Elt Ideal) (e' := .bf16) x3 (cols 128 inb_S1x256x256_S1x256x128_0_0_128))
      (View.ld (Val := Elt Ideal) (e' := .bf16) x4 (cols 128 inb_S1x256x256_S1x256x128_0_0_128)) (View.ld (Val := Elt Ideal) (e' := .bf16) x6 (cols 128 inb_S1x256x256_S1x256x128_0_0_128))⟩,
   ⟨cols 0 inb_S1x256x256_S1x256x128_0_0_0, head (F := Ideal) (View.ld (Val := Elt Ideal) (e' := .bf16) x3 (cols 0 inb_S1x256x256_S1x256x128_0_0_0))
      (View.ld (Val := Elt Ideal) (e' := .bf16) x4 (cols 0 inb_S1x256x256_S1x256x128_0_0_0)) (View.ld (Val := Elt Ideal) (e' := .bf16) x6 (cols 0 inb_S1x256x256_S1x256x128_0_0_0))⟩]

/-- Row `r`, column `j` of a block: the query, the keys and the values it needs. -/
def blk (x3 x4 x6 : S1x256x256.Idx → EReal) (r j : Fin 256) : Head where
  q y := x6 (ix3 0 r ⟨j.val / 128 * 128 + y.val, by omega⟩)
  k x y := x3 (ix3 0 x ⟨j.val / 128 * 128 + y.val, by omega⟩)
  v x := x4 (ix3 0 x j)

variable (x3 x4 x6 : S1x256x256.Idx → EReal)

theorem ld_cols (w : S1x256x256.Idx → EReal) (o : ℕ) (inb) (x : Fin 256) (y : Fin 128) (j : Fin 256) (h : j.val = o + y.val) :
    View.ld (Val := Elt Ideal) (e' := .bf16) w (cols o inb) (ix3 0 x y) = w (ix3 0 x j) := by
  refine congrArg w (funext fun a => Fin.ext ?_)
  match a with
  | ⟨0, _⟩ => rfl
  | ⟨1, _⟩ => show 0 + 1 * x.val = x.val; omega
  | ⟨2, _⟩ => show o + 1 * y.val = j.val; omega

theorem head_cols (hd : Fin 2) (inb) (r : Fin 256) (d : Fin 128) (j : Fin 256) (h : j.val = 128 * hd.val + d.val) :
    head (F := Ideal) (View.ld (Val := Elt Ideal) (e' := .bf16) x3 (cols (128 * hd.val) inb)) (View.ld (Val := Elt Ideal) (e' := .bf16) x4 (cols (128 * hd.val) inb))
      (View.ld (Val := Elt Ideal) (e' := .bf16) x6 (cols (128 * hd.val) inb)) (ix3 0 r d) = (blk x3 x4 x6 r j).out := by
  rw [head_apply]
  have hd2 := hd.isLt
  have hdd := d.isLt
  refine congrArg Head.out ?_
  unfold blk
  refine congr (congrArg₂ Head.mk (funext fun y => ?_) (funext fun x => funext fun y => ?_)) (funext fun x => ?_)
  · exact ld_cols x6 _ inb r y _ (by show j.val / 128 * 128 + y.val = _; omega)
  · exact ld_cols x3 _ inb x y _ (by show j.val / 128 * 128 + y.val = _; omega)
  · exact ld_cols x4 _ inb x d j h

theorem piece_cols (hd : Fin 2) (inb) (z : S1x256x128.Idx) :
    head (F := Ideal) (View.ld (Val := Elt Ideal) (e' := .bf16) x3 (cols (128 * hd.val) inb)) (View.ld (Val := Elt Ideal) (e' := .bf16) x4 (cols (128 * hd.val) inb))
      (View.ld (Val := Elt Ideal) (e' := .bf16) x6 (cols (128 * hd.val) inb)) z
      = (blk x3 x4 x6 ((cols (128 * hd.val) inb).emb z 1) ((cols (128 * hd.val) inb).emb z 2)).out := by
  obtain ⟨p, r, d, rfl⟩ : ∃ (p : Fin 1) (r : Fin 256) (d : Fin 128), z = ix3 p r d := ⟨z 0, z 1, z 2, eq_ix3 z⟩
  obtain rfl : p = 0 := Subsingleton.elim _ _
  have e1 : (cols (128 * hd.val) inb).emb (ix3 0 r d) 1 = r := Fin.ext (by show 0 + 1 * r.val = r.val; omega)
  rw [e1]
  exact head_cols x3 x4 x6 hd inb r d _ (by show 128 * hd.val + 1 * d.val = _; omega)

/-- The block that a grid point leaves, read at an index. -/
theorem stored_apply (y : S1x256x256.Idx) : View.canon (Val := Elt Ideal) (s := S1x256x256) (e := .bf16) (stored x3 x4 x6) y = (blk x3 x4 x6 (y 1) (y 2)).out := by
  refine View.canon_apply_of_pieces (Val := Elt Ideal) (e := .bf16) (S := S1x256x256) (fun y : S1x256x256.Idx => (blk x3 x4 x6 (y 1) (y 2)).out) _ ?_ y ?_
  · intro p hp
    rcases List.mem_cons.mp hp with rfl | hp
    · exact piece_cols x3 x4 x6 1 _
    rcases List.mem_cons.mp hp with rfl | hp
    · exact piece_cols x3 x4 x6 0 _
    · exact absurd hp (List.not_mem_nil)
  · have h0 : (y 0).val < 1 := (y 0).isLt
    have h1 : (y 1).val < 256 := (y 1).isLt
    have h2 : (y 2).val < 256 := (y 2).isLt
    by_cases h : (y 2).val < 128
    · refine ⟨_, List.mem_cons_of_mem _ (List.mem_cons_self ..), (Rect.mem_set_unit (inb := inb_S1x256x256_S1x256x128_0_0_0)).mpr fun a => ?_⟩
      match a with
      | ⟨0, _⟩ => exact ⟨Nat.zero_le _, by show (y 0).val < 0 + 1; omega⟩
      | ⟨1, _⟩ => exact ⟨Nat.zero_le _, by show (y 1).val < 0 + 256; omega⟩
      | ⟨2, _⟩ => exact ⟨Nat.zero_le _, by show (y 2).val < 0 + 128; omega⟩
    · refine ⟨_, List.mem_cons_self .., (Rect.mem_set_unit (inb := inb_S1x256x256_S1x256x128_0_0_128)).mpr fun a => ?_⟩
      match a with
      | ⟨0, _⟩ => exact ⟨Nat.zero_le _, by show (y 0).val < 0 + 1; omega⟩
      | ⟨1, _⟩ => exact ⟨Nat.zero_le _, by show (y 1).val < 0 + 256; omega⟩
      | ⟨2, _⟩ => exact ⟨by show 128 ≤ (y 2).val; omega, by show (y 2).val < 128 + 128; omega⟩

end Cert.Ctx

end
-- ==== Proof.CtxRun.lean ====
module

public import proofs.«01_k».proof.Proof.CtxHead

@[expose] public section

/-!
# The context's block of one grid point, from the run

The first point of every eight also makes the bias; for the context both kinds of point do the same.
-/

set_option maxRecDepth 65536
set_option maxHeartbeats 0

noncomputable section

namespace Cert.Ctx

open Cert.KernelIdeal Cert.KernelIdeal.Gen Idealize.ShloMosaic

/-- The two stores, with the loads as the run states them. -/
def pieces (arg5 : Memref sig .tc .vmem S1x256x256 .bf16) (harg5 : arg5.IsWhole) (arg6 : Memref sig .tc .vmem S1x256x256 .bf16) (harg6 : arg6.IsWhole)
    (arg8 : Memref sig .tc .vmem S1x256x256 .bf16) (harg8 : arg8.IsWhole) (x3 x4 x6 : Vec Ideal S1x256x256 .bf16) : List (View.Piece (Elt Ideal) S1x256x256 .bf16) :=
  [⟨cols 128 inb_S1x256x256_S1x256x128_0_0_128, head (View.readAt (Elt Ideal) arg5.view (cols 128 inb_S1x256x256_S1x256x128_0_0_128).toLoadRect (harg5.unread x3))
      (View.readAt (Elt Ideal) arg6.view (cols 128 inb_S1x256x256_S1x256x128_0_0_128).toLoadRect (harg6.unread x4))
      (View.readAt (Elt Ideal) arg8.view (cols 128 inb_S1x256x256_S1x256x128_0_0_128).toLoadRect (harg8.unread x6))⟩,
   ⟨cols 0 inb_S1x256x256_S1x256x128_0_0_0, head (View.readAt (Elt Ideal) arg5.view (cols 0 inb_S1x256x256_S1x256x128_0_0_0).toLoadRect (harg5.unread x3))
      (View.readAt (Elt Ideal) arg6.view (cols 0 inb_S1x256x256_S1x256x128_0_0_0).toLoadRect (harg6.unread x4))
      (View.readAt (Elt Ideal) arg8.view (cols 0 inb_S1x256x256_S1x256x128_0_0_0).toLoadRect (harg8.unread x6))⟩]

theorem pieces_eq (arg5 : Memref sig .tc .vmem S1x256x256 .bf16) (harg5 : arg5.IsWhole) (arg6 : Memref sig .tc .vmem S1x256x256 .bf16) (harg6 : arg6.IsWhole)
    (arg8 : Memref sig .tc .vmem S1x256x256 .bf16) (harg8 : arg8.IsWhole) (x3 x4 x6 : Vec Ideal S1x256x256 .bf16) :
    pieces arg5 harg5 arg6 harg6 arg8 harg8 x3 x4 x6 = stored x3 x4 x6 := by
  unfold pieces stored
  simp only [View.readAt_eq_ld, harg5.read_unread, harg6.read_unread, harg8.read_unread]

theorem runA (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S2x16x128 .f32) (harg7 : arg7.IsWhole) (arg8 : Memref sig .tc .vmem S1x256x256 .bf16) (harg8 : arg8.IsWhole) (arg9 : Memref sig .tc .vmem S1x2048x256 .bf16) (harg9 : arg9.IsWhole) (arg10 : Memref sig .tc .vmem S1x256x256 .bf16) (harg10 : arg10.IsWhole) (arg11 : Memref sig .tc .vmem S2x8x64x512 .f32) (harg11 : arg11.IsWhole) (hc0 : cond0_0 i)
    (x0 : Vec Ideal S1x2048x256 .bf16) (x1 : Vec Ideal S1x2048x256 .bf16) (x2 : Vec Ideal S1x2048x256 .bf16) (x3 : Vec Ideal S1x256x256 .bf16) (x4 : Vec Ideal S1x256x256 .bf16) (x5 : Vec Ideal S2x16x128 .f32) (x6 : Vec Ideal S1x256x256 .bf16) :
    (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.1 = pieces arg5 harg5 arg6 harg6 arg8 harg8 x3 x4 x6 := by exact rfl

theorem runB (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S2x16x128 .f32) (harg7 : arg7.IsWhole) (arg8 : Memref sig .tc .vmem S1x256x256 .bf16) (harg8 : arg8.IsWhole) (arg9 : Memref sig .tc .vmem S1x2048x256 .bf16) (harg9 : arg9.IsWhole) (arg10 : Memref sig .tc .vmem S1x256x256 .bf16) (harg10 : arg10.IsWhole) (arg11 : Memref sig .tc .vmem S2x8x64x512 .f32) (harg11 : arg11.IsWhole) (hc0 : ¬cond0_0 i)
    (x0 : Vec Ideal S1x2048x256 .bf16) (x1 : Vec Ideal S1x2048x256 .bf16) (x2 : Vec Ideal S1x2048x256 .bf16) (x3 : Vec Ideal S1x256x256 .bf16) (x4 : Vec Ideal S1x256x256 .bf16) (x5 : Vec Ideal S2x16x128 .f32) (x6 : Vec Ideal S1x256x256 .bf16) (xs0 : Vec Ideal S2x8x64x512 .f32) :
    (kernelRun0_B (F := Ideal) c i arg2 harg2 arg3 harg3 arg4 harg4 arg5 harg5 arg6 harg6 arg7 harg7 arg8 harg8 arg9 harg9 arg10 harg10 arg11 harg11 hc0 x0 x1 x2 x3 x4 x5 x6 xs0).2.1 = pieces arg5 harg5 arg6 harg6 arg8 harg8 x3 x4 x6 := by exact rfl

theorem outA (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S2x16x128 .f32) (harg7 : arg7.IsWhole) (arg8 : Memref sig .tc .vmem S1x256x256 .bf16) (harg8 : arg8.IsWhole) (arg9 : Memref sig .tc .vmem S1x2048x256 .bf16) (harg9 : arg9.IsWhole) (arg10 : Memref sig .tc .vmem S1x256x256 .bf16) (harg10 : arg10.IsWhole) (arg11 : Memref sig .tc .vmem S2x8x64x512 .f32) (harg11 : arg11.IsWhole) (hc0 : cond0_0 i)
    (x0 : Vec Ideal S1x2048x256 .bf16) (x1 : Vec Ideal S1x2048x256 .bf16) (x2 : Vec Ideal S1x2048x256 .bf16) (x3 : Vec Ideal S1x256x256 .bf16) (x4 : Vec Ideal S1x256x256 .bf16) (x5 : Vec Ideal S2x16x128 .f32) (x6 : Vec Ideal S1x256x256 .bf16) (y : S1x256x256.Idx) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 y = (blk x3 x4 x6 (y 1) (y 2)).out := by
  unfold out0_A_8
  rw [runA, View.read_writes_junk_eq_canon, pieces_eq]
  exact stored_apply x3 x4 x6 y

theorem outB (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S2x16x128 .f32) (harg7 : arg7.IsWhole) (arg8 : Memref sig .tc .vmem S1x256x256 .bf16) (harg8 : arg8.IsWhole) (arg9 : Memref sig .tc .vmem S1x2048x256 .bf16) (harg9 : arg9.IsWhole) (arg10 : Memref sig .tc .vmem S1x256x256 .bf16) (harg10 : arg10.IsWhole) (arg11 : Memref sig .tc .vmem S2x8x64x512 .f32) (harg11 : arg11.IsWhole) (hc0 : ¬cond0_0 i)
    (x0 : Vec Ideal S1x2048x256 .bf16) (x1 : Vec Ideal S1x2048x256 .bf16) (x2 : Vec Ideal S1x2048x256 .bf16) (x3 : Vec Ideal S1x256x256 .bf16) (x4 : Vec Ideal S1x256x256 .bf16) (x5 : Vec Ideal S2x16x128 .f32) (x6 : Vec Ideal S1x256x256 .bf16) (xs0 : Vec Ideal S2x8x64x512 .f32) (y : S1x256x256.Idx) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 xs0 y = (blk x3 x4 x6 (y 1) (y 2)).out := by
  unfold out0_B_8
  rw [runB, View.read_writes_junk_eq_canon, pieces_eq]
  exact stored_apply x3 x4 x6 y

end Cert.Ctx

end
-- ==== Proof.CtxRef.lean ====
module

public import proofs.«01_k».proof.Proof.CtxRow
public import proofs.«01_k».proof.Proof.Gen.ReferenceIdeal.Read
public import Idealize.ShloMosaic.Lib.Pointwise

@[expose] public section

/-!
# The context's attention in the reference, read one query and one column at a time
-/

noncomputable section

namespace Cert.Ctx

open Cert.ReferenceIdeal Cert.ReferenceIdeal.Read Idealize.ShloMosaic

/-- Query `n` of image `b` in head `h`, with column `d` of that head's values: where they lie in the projection's columns. -/
def tok (x1 : S8x256x15360.Idx → EReal) (b h : Fin 8) (n : Fin 256) (d : Fin 128) : Head where
  q y := x1 (ix3 b n ⟨h.val * 128 + y.val, by omega⟩)
  k x y := x1 (ix3 b x ⟨1024 + (h.val * 128 + y.val), by omega⟩)
  v x := x1 (ix3 b x ⟨2048 + (h.val * 128 + d.val), by omega⟩)

variable (x1 : S8x256x15360.Idx → EReal) (b h : Fin 8) (n : Fin 256) (d : Fin 128)

theorem ref_q (y : Fin 128) : val_main_v2 (F := Ideal) x1 (ix4 b n h y) = (tok x1 b h n d).q y := by
  pointwise [val_main_v0, val_main_v1, val_main_v2]
  rfl

theorem ref_k (x : Fin 256) (y : Fin 128) : val_main_v5 (F := Ideal) x1 (ix4 b x h y) = (tok x1 b h n d).k x y := by
  pointwise [val_main_v3, val_main_v4, val_main_v5]
  rfl

theorem ref_v (x : Fin 256) : val_main_v8 (F := Ideal) x1 (ix4 b x h d) = (tok x1 b h n d).v x := by
  pointwise [val_main_v6, val_main_v7, val_main_v8]
  rfl

theorem ref_score (x : Fin 256) : val_main_v11 (F := Ideal) x1 (ix4 b h n x) = (tok x1 b h n d).score x := by
  pointwise [val_main_v9, val_main_v10, val_main_v11, val_main_cst]
  simp only [ref_q x1 b h n d, ref_k x1 b h n d]
  rfl

/-- A maximum over the last of four axes, read at an index: stated for any sizes, so that no number is computed. -/
theorem max_last {n0 n1 n2 n3 : ℕ} {u : Shape} (X : (⟨4, ![n0, n1, n2, n3]⟩ : Shape).Idx → Ideal .f32) (z : u.Idx → Ideal .f32)
    (w : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) X z w hu (ix3 a b c)
      = Finset.univ.fold (FloatOps.maximumf (F := Ideal) (φ := .f32)) (z (Shape.Idx.first hu)) fun x => X (ix4 a b c x) :=
  (Host.reduce_eq_fold _ X z w hu _).trans (w.fold_fiber_r4_a3 _ _ _ X)

theorem ref_top : val_main_v14 (F := Ideal) x1 (ix3 b h n) = max (Ideal.ofBits .f32 0xFF800000#32) (tok x1 b h n d).top := by
  rw [val_main_v14_apply, val_main_v13_apply, val_main_cst_1_apply]
  refine congrArg (max (Ideal.ofBits .f32 0xFF800000#32)) ?_
  unfold val_main_v12
  refine (max_last _ _ _ _ b h n).trans ?_
  rw [val_main_cst_0_apply]
  simp only [ref_score x1 b h n d]
  rfl

theorem ref_weight (x : Fin 256) : val_main_v18 (F := Ideal) x1 (ix4 b h n x) = (tok x1 b h n d).weight' x := by
  pointwise [val_main_v15, val_main_v16, val_main_v17, val_main_v18]
  rw [ref_score x1 b h n d, ref_top x1 b h n d]
  rfl

theorem ref_out : val_main_v24 (F := Ideal) x1 (ix4 b n h d) = (tok x1 b h n d).out' := by
  pointwise [val_main_v19, val_main_v20, val_main_v21, val_main_v22, val_main_v23, val_main_v24, val_main_cst_2]
  simp only [ref_weight x1 b h n d, ref_v x1 b h n d]
  rfl

end Cert.Ctx

end
-- ==== Proof.CtxArray.lean ====
module

public import proofs.«01_k».proof.Proof.CtxRun
public import proofs.«01_k».proof.Proof.CtxRef
public import Idealize.ShloMosaic.Lib.Pipeline.ValueKit
public import Idealize.ShloMosaic.Lib.Claim

@[expose] public section

/-!
# The context's whole result, the kernel's and the reference's

Point `t` takes image `t % 8` and the two heads `2 (t / 8)` and `2 (t / 8) + 1`.
-/

set_option maxRecDepth 16384

noncomputable section

namespace Cert.Ctx

open Cert.KernelIdeal Cert.KernelIdeal.Gen Idealize.ShloMosaic Idealize.ShloMosaic.TcCoe

theorem idx : ∀ t : Fin grid0.N,
    win0_3.index t = ![t.val % 8, 0, 4 + t.val / 8] ∧ win0_4.index t = ![t.val % 8, 0, 8 + t.val / 8] ∧
    win0_6.index t = ![t.val % 8, 0, t.val / 8] ∧ win0_8.index t = ![t.val % 8, 0, t.val / 8] := by
  decide +kernel

/-- The head and the lane that column `j` of the result belongs to. -/
def hd (j : Fin 1024) : Fin 8 := ⟨j.val / 128, by omega⟩
def ln (j : Fin 1024) : Fin 128 := ⟨j.val % 128, by omega⟩

variable (m : (ℓ : Loc nD τ sig) → Buf (Elt Ideal) ℓ) (c : Dev nD)

/-- What the context's projection holds for row `n`, column `j` of image `b`'s result. -/
def at_ (b : Fin 8) (n : Fin 256) (j : Fin 1024) : Head := tok (m ((c : Thread nD τ).loc main_arg1)) b (hd j) n (ln j)

variable (t : Fin cfg0.N) (b : Fin 8) (hb : b.val = t.val % 8)

include hb

theorem in3 (x k : Fin 256) (K : Fin 15360) (hK : K.val = 1024 + (t.val / 8 * 256 + k.val)) :
    iblk m c 3 t (ix3 0 x k) = m ((c : Thread nD τ).loc main_arg1) (ix3 b x K) := by
  blk_ext! [iblk, V, idx t]

theorem in4 (x k : Fin 256) (K : Fin 15360) (hK : K.val = 2048 + (t.val / 8 * 256 + k.val)) :
    iblk m c 4 t (ix3 0 x k) = m ((c : Thread nD τ).loc main_arg1) (ix3 b x K) := by
  blk_ext! [iblk, V, idx t]

theorem in6 (x k : Fin 256) (K : Fin 15360) (hK : K.val = t.val / 8 * 256 + k.val) :
    iblk m c 6 t (ix3 0 x k) = m ((c : Thread nD τ).loc main_arg1) (ix3 b x K) := by
  blk_ext! [iblk, V, idx t]

theorem blk_eq (n k : Fin 256) (j : Fin 1024) (hj : j.val = t.val / 8 * 256 + k.val) :
    blk (iblk m c 3 t) (iblk m c 4 t) (iblk m c 6 t) n k = at_ m c b n j := by
  have hk := k.isLt
  unfold blk at_ tok
  refine congr (congrArg₂ Head.mk (funext fun y => ?_) (funext fun x => funext fun y => ?_)) (funext fun x => ?_)
  · exact in6 m c t b hb n _ _ (by show j.val / 128 * 128 + y.val = t.val / 8 * 256 + (k.val / 128 * 128 + y.val); omega)
  · exact in3 m c t b hb x _ _ (by show 1024 + (j.val / 128 * 128 + y.val) = 1024 + (t.val / 8 * 256 + (k.val / 128 * 128 + y.val)); omega)
  · exact in4 m c t b hb x k _ (by show 2048 + (j.val / 128 * 128 + j.val % 128) = 2048 + (t.val / 8 * 256 + k.val); omega)

/-- What point `t` writes back. -/
theorem flushed_apply (n k : Fin 256) (j : Fin 1024) (hj : j.val = t.val / 8 * 256 + k.val) :
    (dats m 0 c).flushed 8 t (ix3 0 n k) = (at_ m c b n j).out := by
  rw [← blk_eq m c t b hb n k j hj]
  by_cases h0 : t.val % 8 = 0
  · rw [Value.flushed8_A m c t h0]
    exact outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (ix3 0 n k)
  · rw [Value.flushed8_B m c t h0]
    exact outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) _ (ix3 0 n k)

omit hb

/-- The result, as a function of its image, row and column. -/
def G : Buf (Elt Ideal) ((c : Thread nD τ).loc main_v1_1) := fun i : S8x256x1024.Idx => (at_ m c (i 0) (i 1) (i 2)).out

theorem out_congr {b b' : Fin 8} {n n' : Fin 256} {j j' : Fin 1024} (hb : b = b') (hn : n = n') (hj : j = j') :
    (at_ m c b n j).out = (at_ m c b' n' j').out := by
  subst hb hn hj
  rfl

/-- The kernel's result, all of it. -/
theorem arr : (dats m 0 c).arrAt 8 cfg0.N = G m c :=
  (dats m 0 c).arrAt_eq_of_covers 8 (G m c) (by decide +kernel) fun t hf y => by
    have hy : y = ix3 (show Fin 1 from y 0) (show Fin 256 from y 1) (show Fin 256 from y 2) := ValueIdx.eq_ix3 (n0 := 1) (n1 := 256) (n2 := 256) y
    have h0 : (show Fin 1 from y 0) = 0 := Subsingleton.elim _ _
    have hk : (show Fin 256 from y 2).val < 256 := (show Fin 256 from y 2).isLt
    have ht : t.val < 32 := t.isLt
    rw [h0] at hy
    have h := flushed_apply m c t ⟨t.val % 8, by omega⟩ rfl (show Fin 256 from y 1) (show Fin 256 from y 2) ⟨t.val / 8 * 256 + (show Fin 256 from y 2).val, by omega⟩ rfl
    rw [hy]
    refine h.trans ?_
    have e0 : ((((cfg0.win 8).blk t).view.emb (ix3 0 (show Fin 256 from y 1) (show Fin 256 from y 2))) 0 : ℕ) = t.val % 8 := by
      blk_simp [idx t]
      exact Nat.add_zero _
    have e1 : ((((cfg0.win 8).blk t).view.emb (ix3 0 (show Fin 256 from y 1) (show Fin 256 from y 2))) 1 : ℕ) = (show Fin 256 from y 1).val := by
      blk_simp [idx t]
    have e2 : ((((cfg0.win 8).blk t).view.emb (ix3 0 (show Fin 256 from y 1) (show Fin 256 from y 2))) 2 : ℕ) = t.val / 8 * 256 + (show Fin 256 from y 2).val := by
      blk_simp [idx t]
    exact out_congr m c (Fin.ext e0.symm) (Fin.ext e1.symm) (Fin.ext e2.symm)

/-- The reference's result, read at an index. -/
theorem ref_arr (x1 : S8x256x15360.Idx → EReal) (i : S8x256x1024.Idx) :
    Cert.ReferenceIdeal.Read.val_main_v26 (F := Ideal) x1 i = (tok x1 (i 0) (hd (i 2)) (i 1) (ln (i 2))).out' := by
  refine (Cert.ReferenceIdeal.Read.val_main_v25_apply (F := Ideal) x1 i).trans (Eq.trans ?_ (ref_out x1 (i 0) (hd (i 2)) (i 1) (ln (i 2))))
  have h0 : (i 0).val < 8 := (i 0).isLt
  have h1 : (i 1).val < 256 := (i 1).isLt
  have h2 : (i 2).val < 1024 := (i 2).isLt
  refine congrArg _ (funext fun a => Fin.ext ?_)
  match a with
  | ⟨0, _⟩ => show (((i 0).val * 256 + (i 1).val) * 1024 + (i 2).val) / 262144 = (i 0).val; omega
  | ⟨1, _⟩ => show (((i 0).val * 256 + (i 1).val) * 1024 + (i 2).val) / 1024 % 256 = (i 1).val; omega
  | ⟨2, _⟩ => show (((i 0).val * 256 + (i 1).val) * 1024 + (i 2).val) / 128 % 8 = (i 2).val / 128; omega
  | ⟨3, _⟩ => show (((i 0).val * 256 + (i 1).val) * 1024 + (i 2).val) % 128 = (i 2).val % 128; omega

end Cert.Ctx

end
-- ==== Proof.CtxClaim.lean ====
module

public import proofs.«01_k».proof.Defs
public import proofs.«01_k».proof.Proof.CtxArray
public import proofs.«01_k».proof.Proof.Gen.Pre_finite
public import proofs.«01_k».proof.Proof.Gen.ReferenceIdeal.Run
public import Idealize.ShloMosaic.Lib.Claim

@[expose] public section

/-!
# The context's attention: kernel and reference end with one and the same array
-/

noncomputable section

namespace Cert.Ctx

open Idealize.ShloMosaic Idealize.ShloMosaic.TcCoe Idealize.SL.Sem

theorem infinite : Ideal.ofBits .f32 0x7F800000#32 = (⊤ : EReal) := by simp [Ideal.ofBits, Ideal.ieee]

/-- A number whose absolute value is below `+∞` is a real. -/
theorem real_of_abs (x : EReal) (h : max x (-x) < ⊤) : ∃ r : ℝ, x = (r : EReal) := by
  induction x with
  | bot => exact absurd h (by simp)
  | top => exact absurd h (by simp)
  | coe r => exact ⟨r, rfl⟩

/-- The same, of the comparison as the precondition writes it. -/
theorem real_of_cmp (x : EReal) (e : BitVec.ofBool (decide (max x (-x) < Ideal.ofBits .f32 0x7F800000#32)) = 1#1) : ∃ r : ℝ, x = (r : EReal) := by
  rw [infinite] at e
  by_cases h : max x (-x) < ⊤
  · exact real_of_abs x h
  · rw [decide_eq_false h] at e
    exact absurd e (by decide)

/-- The precondition says that every entry of the context's projection is a real. -/
theorem real_of_finite (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) (i : Cert.KernelIdeal.S8x256x15360.Idx) :
    ∃ r : ℝ, (m ((c : Thread Cert.KernelIdeal.nD Cert.KernelIdeal.τ).loc Cert.KernelIdeal.main_arg1) i : EReal) = (r : EReal) :=
  real_of_cmp _ (congrFun (h c) i)

theorem tok_real (x1 : Cert.KernelIdeal.S8x256x15360.Idx → EReal) (h : ∀ i, ∃ r : ℝ, x1 i = (r : EReal)) (b a : Fin 8) (n : Fin 256) (d : Fin 128) :
    (tok x1 b a n d).Real := ⟨fun _ => h _, fun _ _ => h _, fun _ => h _⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hfin hagree
  refine ⟨fun c => G m c, (θ_run Cert.KernelIdeal.defs _ _).mono (fun r h c => ⟨(h c).2.1.trans (arr m c), (h c).2.2⟩)
    (Cert.KernelIdeal.Value.run_blocks (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v26_eq]
  obtain ⟨_, e1, _⟩ := hagree c
  rw [e1]
  exact funext fun i => (ref_arr _ i).trans (out_eq _ (tok_real _ (real_of_finite m hfin c) _ _ _ _)).symm

end Cert.Ctx

end
-- ==== Proof.Merge.lean ====
module

public import Idealize.ShloMosaic.PureOps.Ideal

@[expose] public section

/-!
# One row of the merged branches, as a formula

What the merge, the output projection, the gated residual and the last normalisation compute for one token, over the
extended reals: no tiles, no rounding, no order of accumulation.
-/

noncomputable section

namespace Cert.Merge

open Idealize.ShloMosaic

/-- Everything one token's row is computed from: the three branches' rows with the inputs of their gates, the branch
    matrices, the output matrix, the residual row with its gate, and the two norm weights. -/
@[ext] structure Tok where
  a : Fin 1024 → EReal
  za : Fin 1024 → EReal
  f : Fin 1024 → EReal
  s : Fin 1024 → EReal
  zs : Fin 1024 → EReal
  ns : Fin 1024 → EReal
  wa : Fin 1024 → Fin 2048 → EReal
  wf : Fin 1024 → Fin 2048 → EReal
  ws : Fin 1024 → Fin 2048 → EReal
  ga : Fin 2048 → EReal
  gf : Fin 2048 → EReal
  gs : Fin 2048 → EReal
  wo : Fin 2048 → Fin 2048 → EReal
  x : Fin 2048 → EReal
  g : Fin 2048 → EReal
  nf : Fin 2048 → EReal

/-- `z` times its logistic. -/
def silu (z : EReal) : EReal := z * Ideal.logistic z

/-- A row over its root mean square, `n` the number of its entries and `e` the small constant beside the mean. -/
def rms {N : ℕ} (n e : EReal) (x : Fin N → EReal) (k : Fin N) : EReal :=
  x k * Ideal.rsqrt (Ideal.div (∑ y, x y * x y) n + e)

abbrev eps : EReal := Ideal.ofBits .f32 897988541#32

namespace Tok

variable (T : Tok)

def attn (k : Fin 1024) : EReal := T.a k * silu (T.za k)

def ssm (k : Fin 1024) : EReal := rms (Ideal.ofBits .f32 1149239296#32) eps (fun y => T.s y * silu (T.zs y)) k * T.ns k

/-- The three branches through their matrices, each under its gate, added. -/
def merged (k : Fin 2048) : EReal :=
  Ideal.logistic (T.ga k) * ∑ x, T.attn x * T.wa x k + Ideal.logistic (T.gf k) * ∑ x, T.f x * T.wf x k
    + Ideal.logistic (T.gs k) * ∑ x, T.ssm x * T.ws x k

def resid (j : Fin 2048) : EReal := T.x j + T.g j * ∑ y, T.merged y * T.wo y j

def out (j : Fin 2048) : EReal := rms (Ideal.ofBits .f32 1157627904#32) eps T.resid j * T.nf j

end Tok

end Cert.Merge
-- ==== Proof.Inproj.lean ====
module

public import proofs.«01_k».proof.Proof.Merge

@[expose] public section

/-!
# One row of the input projection, as a formula

A token's row over its root mean square, under the norm's weight, scaled and shifted by its image's modulation; then
its product with one row of a weight.
-/

noncomputable section

namespace Cert.Inproj

open Idealize.ShloMosaic

/-- A token: its row, the norm's weight, its image's scale and shift. -/
@[ext] structure Tok where
  x : Fin 2048 → EReal
  nw : Fin 2048 → EReal
  sc : Fin 2048 → EReal
  sh : Fin 2048 → EReal

namespace Tok

variable (T : Tok)

/-- The row normalised and modulated. -/
def h (j : Fin 2048) : EReal :=
  Cert.Merge.rms (Ideal.ofBits .f32 1157627904#32) Cert.Merge.eps T.x j * T.nw j * (1 + T.sc j) + T.sh j

/-- Its product with a row of a weight. -/
def through (w : Fin 2048 → EReal) : EReal := ∑ k, T.h k * w k

end Tok

end Cert.Inproj
-- ==== Proof.InprojKernel.lean ====
module

public import proofs.«01_k».proof.Proof.Inproj
public import proofs.«01_k».proof.Proof.Gen.Kernel2Ideal.Skeleton
public import Idealize.ShloMosaic.Lib.Pointwise

@[expose] public section

/-!
# The input projection's kernel, read one row of a block at a time
-/

noncomputable section

namespace Cert.Inproj

open Cert.Kernel2Ideal Cert.Kernel2Ideal.Gen Idealize.ShloMosaic

variable (x0 : S1024x2048.Idx → EReal) (x1 : S1x2048.Idx → EReal) (x2 x3 : S1x1x2048.Idx → EReal)

/-- Row `r` of the blocks a grid point reads. -/
def blk (r : Fin 1024) : Tok where
  x j := x0 (ix2 r j)
  nw j := x1 (ix2 0 j)
  sc j := x2 (ix3 0 0 j)
  sh j := x3 (ix3 0 0 j)

theorem ker_h (r : Fin 1024) (j : Fin 2048) : k0_pay1 (F := Ideal) x0 x1 x2 x3 (ix2 r j) = (blk x0 x1 x2 x3 r).h j := by
  pointwise [k0_pay1]
  rfl

theorem ker_kept : k0_pay2 (F := Ideal) x0 x1 x2 x3 = k0_pay1 (F := Ideal) x0 x1 x2 x3 := by
  funext y
  rw [ValueIdx.eq_ix2 (n0 := 1024) (n1 := 2048) y]
  pointwise [k0_pay2]

/-- The product with the small weight. -/
theorem ker_small (w : S1x128x2048.Idx → EReal) (r : Fin 1024) (n : Fin 128) :
    k0_pay3 (F := Ideal) x0 x1 x2 x3 w (ix2 r n) = (blk x0 x1 x2 x3 r).through fun k => w (ix3 0 n k) := by
  unfold Tok.through
  simp only [← ker_h]
  unfold k0_pay3
  generalize k0_pay1 (F := Ideal) x0 x1 x2 x3 = y
  pointwise []

/-- The product with one block of the large weight's rows. -/
theorem ker_main (w : S1x2560x2048.Idx → EReal) (r : Fin 1024) (n : Fin 2560) :
    k0_pay4 (F := Ideal) (k0_pay2 (F := Ideal) x0 x1 x2 x3) w (ix2 r n) = (blk x0 x1 x2 x3 r).through fun k => w (ix3 0 n k) := by
  rw [ker_kept]
  unfold Tok.through
  simp only [← ker_h]
  unfold k0_pay4
  generalize k0_pay1 (F := Ideal) x0 x1 x2 x3 = y
  pointwise []

end Cert.Inproj
-- ==== Proof.InprojRef.lean ====
module

public import proofs.«01_k».proof.Proof.Inproj
public import proofs.«01_k».proof.Proof.Gen.Reference2Ideal.Read
public import Idealize.ShloMosaic.Lib.Pointwise

@[expose] public section

/-!
# The input projection's reference, read one token at a time
-/

noncomputable section

namespace Cert.Inproj

open Cert.Reference2Ideal Cert.Reference2Ideal.Read Idealize.ShloMosaic

/-- The image and the token that row `n` of the results belongs to. -/
def img (n : Fin 16384) : Fin 8 := ⟨n.val / 2048, by omega⟩
def tokenOf (n : Fin 16384) : Fin 2048 := ⟨n.val % 2048, by omega⟩

variable (x0 : S8x2048x2048.Idx → EReal) (x1 : S2048.Idx → EReal) (x2 x3 : S8x2048.Idx → EReal)

/-- Token `q` of image `b`, gathered from the arguments. -/
def tok (b : Fin 8) (q : Fin 2048) : Tok where
  x j := x0 (ix3 b q j)
  nw j := x1 (ix1 j)
  sc j := x2 (ix2 b j)
  sh j := x3 (ix2 b j)

theorem ref_h (b : Fin 8) (q j : Fin 2048) : val_main_v20 (F := Ideal) x0 x1 x2 x3 (ix3 b q j) = (tok x0 x1 x2 x3 b q).h j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

/-- The rows laid out one image after the other. -/
theorem ref_row (n : Fin 16384) (k : Fin 2048) : val_main_v21 (F := Ideal) x0 x1 x2 x3 (ix2 n k) = (tok x0 x1 x2 x3 (img n) (tokenOf n)).h k := by
  rw [val_main_v21_apply, ← ref_h]
  have h0 := n.isLt
  have h1 := k.isLt
  refine congrArg _ (funext fun a => Fin.ext ?_)
  match a with
  | ⟨0, _⟩ => show (n.val * 2048 + k.val) / 4194304 = n.val / 2048; omega
  | ⟨1, _⟩ => show (n.val * 2048 + k.val) / 2048 % 2048 = n.val % 2048; omega
  | ⟨2, _⟩ => show (n.val * 2048 + k.val) % 2048 = k.val; omega

theorem ref_weight (x4 : S2x15360x2048.Idx → EReal) (k : Fin 2048) (j : Fin 15360) : val_main_v25 (F := Ideal) x4 (ix2 k j) = x4 (ix3 0 j k) := by
  pointwise [val_main_v22, val_main_v23, val_main_v24, val_main_v25]

theorem ref_weight_small (x5 : S2x128x2048.Idx → EReal) (k : Fin 2048) (j : Fin 128) : val_main_v30 (F := Ideal) x5 (ix2 k j) = x5 (ix3 0 j k) := by
  pointwise [val_main_v27, val_main_v28, val_main_v29, val_main_v30]

theorem ref_main (x4 : S2x15360x2048.Idx → EReal) (n : Fin 16384) (j : Fin 15360) :
    val_main_v32 (F := Ideal) x0 x1 x2 x3 x4 (ix2 n j) = (tok x0 x1 x2 x3 (img n) (tokenOf n)).through fun k => x4 (ix3 0 j k) := by
  refine (val_main_v26_apply x0 x1 x2 x3 x4 (ix2 n j)).trans (Finset.sum_congr rfl fun k _ => ?_)
  beta_reduce
  rw [← ref_row, ← ref_weight x4]
  congr 1 <;> refine congrArg _ (funext fun a => ?_) <;> match a with
    | ⟨0, _⟩ => rfl
    | ⟨1, _⟩ => rfl

theorem ref_small (x5 : S2x128x2048.Idx → EReal) (n : Fin 16384) (j : Fin 128) :
    val_main_v31 (F := Ideal) x0 x1 x2 x3 x5 (ix2 n j) = (tok x0 x1 x2 x3 (img n) (tokenOf n)).through fun k => x5 (ix3 0 j k) := by
  refine (val_main_v31_apply x0 x1 x2 x3 x5 (ix2 n j)).trans (Finset.sum_congr rfl fun k _ => ?_)
  beta_reduce
  rw [← ref_row, ← ref_weight_small x5]
  congr 1 <;> refine congrArg _ (funext fun a => ?_) <;> match a with
    | ⟨0, _⟩ => rfl
    | ⟨1, _⟩ => rfl

end Cert.Inproj
-- ==== Proof.InprojArray.lean ====
module

public import proofs.«01_k».proof.Proof.InprojFrame
public import proofs.«01_k».proof.Proof.InprojKernel
public import proofs.«01_k».proof.Proof.InprojRef
public import Idealize.ShloMosaic.Lib.Pipeline.ValueKit
public import Idealize.ShloMosaic.Lib.Claim

@[expose] public section

/-!
# The input projection's two arrays

One grid point's blocks are 1024 tokens of one image with 2560 rows of the large weight.
-/

set_option maxRecDepth 16384

noncomputable section

namespace Cert.Inproj

open Cert.Kernel2Ideal Cert.Kernel2Ideal.Gen Idealize.ShloMosaic Idealize.ShloMosaic.TcCoe

theorem idx : ∀ t : Fin grid0.N,
    win0_0.index t = ![t.val / 6, 0] ∧ win0_1.index t = ![0, 0] ∧ win0_2.index t = ![t.val / 12, 0, 0] ∧
    win0_3.index t = ![t.val / 12, 0, 0] ∧ win0_4.index t = ![0, t.val % 6, 0] ∧ win0_5.index t = ![0, 0, 0] ∧
    win0_6.index t = ![t.val / 6, t.val % 6] ∧ win0_7.index t = ![t.val / 6, 0] := by
  decide +kernel

variable (m : (ℓ : Loc nD τ sig) → Buf (Elt Ideal) ℓ) (c : Dev nD)

/-- The token the arguments hold in row `q` of image `b`. -/
def at_ (b : Fin 8) (q : Fin 2048) : Tok :=
  tok (m ((c : Thread nD τ).loc main_arg0)) (m ((c : Thread nD τ).loc main_arg1)) (m ((c : Thread nD τ).loc main_arg2)) (m ((c : Thread nD τ).loc main_arg3)) b q

section Blocks

variable (t : Fin cfg0.N) (r : Fin 1024) (b : Fin 8) (q : Fin 2048) (hb : b.val = t.val / 12) (hq : q.val = t.val / 6 % 2 * 1024 + r.val)

include hb hq

theorem in0 (j : Fin 2048) : iblk m c 0 t (ix2 r j) = m ((c : Thread nD τ).loc main_arg0) (ix3 b q j) := by
  blk_ext! [iblk, V, idx t]

theorem in1 (j : Fin 2048) : iblk m c 1 t (ix2 0 j) = m ((c : Thread nD τ).loc main_arg1) (ix1 j) := by
  blk_ext! [iblk, V, idx t]

theorem in2 (j : Fin 2048) : iblk m c 2 t (ix3 0 0 j) = m ((c : Thread nD τ).loc main_arg2) (ix2 b j) := by
  blk_ext! [iblk, V, idx t]

theorem in3 (j : Fin 2048) : iblk m c 3 t (ix3 0 0 j) = m ((c : Thread nD τ).loc main_arg3) (ix2 b j) := by
  blk_ext! [iblk, V, idx t]

/-- Row `r` of point `t`'s blocks is token `q` of image `b`. -/
theorem blk_eq : blk (iblk m c 0 t) (iblk m c 1 t) (iblk m c 2 t) (iblk m c 3 t) r = at_ m c b q := by
  unfold blk at_ tok
  congr 1
  · exact funext fun j => in0 m c t r b q hb hq j
  · exact funext fun j => in1 m c t r b q hb hq j
  · exact funext fun j => in2 m c t r b q hb hq j
  · exact funext fun j => in3 m c t r b q hb hq j

end Blocks

theorem in4 (t : Fin cfg0.N) (n : Fin 2560) (j : Fin 15360) (hj : j.val = t.val % 6 * 2560 + n.val) (k : Fin 2048) :
    iblk m c 4 t (ix3 0 n k) = m ((c : Thread nD τ).loc main_arg4) (ix3 0 j k) := by
  blk_ext! [iblk, V, idx t]

theorem in5 (t : Fin cfg0.N) (n : Fin 128) (k : Fin 2048) :
    iblk m c 5 t (ix3 0 n k) = m ((c : Thread nD τ).loc main_arg5) (ix3 0 n k) := by
  blk_ext! [iblk, V, idx t]

/-- The large product, row by row and column by column. -/
def P : Buf (Elt Ideal) ((c : Thread nD τ).loc main_v4_0) := fun i : S16384x15360.Idx =>
  (at_ m c (img (i 0)) (tokenOf (i 0))).through fun k => m ((c : Thread nD τ).loc main_arg4) (ix3 0 (show Fin 15360 from i 1) k)

/-- The small product. -/
def D : Buf (Elt Ideal) ((c : Thread nD τ).loc main_v4_1) := fun i : S16384x128.Idx =>
  (at_ m c (img (i 0)) (tokenOf (i 0))).through fun k => m ((c : Thread nD τ).loc main_arg5) (ix3 0 (show Fin 128 from i 1) k)

/-- Row `r` of what point `t` writes back of the large product. -/
theorem main_apply (t : Fin cfg0.N) (r : Fin 1024) (y : Fin 2560) (n : Fin 16384) (hn : n.val = t.val / 6 * 1024 + r.val)
    (j : Fin 15360) (hj : j.val = t.val % 6 * 2560 + y.val) :
    (dats m 0 c).flushed 6 t (ix2 r y) = (at_ m c (img n) (tokenOf n)).through fun k => m ((c : Thread nD τ).loc main_arg4) (ix3 0 j k) := by
  refine (show (dats m 0 c).flushed 6 t (ix2 r y) = main m c t (ix2 r y) from rfl).trans ?_
  unfold main normed
  rw [ker_main, blk_eq m c t r (img n) (tokenOf n) (by simp only [img]; omega) (by simp only [tokenOf]; omega)]
  exact congrArg (Tok.through _) (funext fun k => in4 m c t y j hj k)

theorem small_apply (t : Fin cfg0.N) (r : Fin 1024) (y : Fin 128) (n : Fin 16384) (hn : n.val = t.val / 6 * 1024 + r.val) :
    (dats m 0 c).flushed 7 t (ix2 r y) = (at_ m c (img n) (tokenOf n)).through fun k => m ((c : Thread nD τ).loc main_arg5) (ix3 0 y k) := by
  refine (show (dats m 0 c).flushed 7 t (ix2 r y) = small m c t (ix2 r y) from rfl).trans ?_
  unfold small
  rw [ker_small, blk_eq m c t r (img n) (tokenOf n) (by simp only [img]; omega) (by simp only [tokenOf]; omega)]
  exact congrArg (Tok.through _) (funext fun k => in5 m c t y k)

/-- The large product, all of it. -/
theorem arr_main : (dats m 0 c).arrAt 6 cfg0.N = P m c :=
  (dats m 0 c).arrAt_eq_of_covers 6 (P m c) (by decide +kernel) fun t hf y => by
    have hy : y = ix2 (show Fin 1024 from y 0) (show Fin 2560 from y 1) := ValueIdx.eq_ix2 (n0 := 1024) (n1 := 2560) y
    have hr : (show Fin 1024 from y 0).val < 1024 := (show Fin 1024 from y 0).isLt
    have hs : (show Fin 2560 from y 1).val < 2560 := (show Fin 2560 from y 1).isLt
    have ht : t.val < 96 := t.isLt
    have h := main_apply m c t (show Fin 1024 from y 0) (show Fin 2560 from y 1) ⟨t.val / 6 * 1024 + (show Fin 1024 from y 0).val, by omega⟩ rfl
      ⟨t.val % 6 * 2560 + (show Fin 2560 from y 1).val, by omega⟩ rfl
    rw [hy]
    refine h.trans ?_
    have e0 : ((((cfg0.win 6).blk t).view.emb (ix2 (show Fin 1024 from y 0) (show Fin 2560 from y 1))) 0 : ℕ) = t.val / 6 * 1024 + (show Fin 1024 from y 0).val := by
      blk_simp [idx t]
    have e1 : ((((cfg0.win 6).blk t).view.emb (ix2 (show Fin 1024 from y 0) (show Fin 2560 from y 1))) 1 : ℕ) = t.val % 6 * 2560 + (show Fin 2560 from y 1).val := by
      blk_simp [idx t]
    exact congrArg₂ (fun (n : Fin 16384) (j : Fin 15360) => (at_ m c (img n) (tokenOf n)).through fun k => m ((c : Thread nD τ).loc main_arg4) (ix3 0 j k)) (Fin.ext e0.symm) (Fin.ext e1.symm)

/-- The small product, all of it: it is written back on a block's last visit. -/
theorem arr_small : (dats m 0 c).arrAt 7 cfg0.N = D m c :=
  (dats m 0 c).arrAt_eq_of_covers 7 (D m c) (by decide +kernel) fun t hf y => by
    have hy : y = ix2 (show Fin 1024 from y 0) (show Fin 128 from y 1) := ValueIdx.eq_ix2 (n0 := 1024) (n1 := 128) y
    have hr : (show Fin 1024 from y 0).val < 1024 := (show Fin 1024 from y 0).isLt
    have ht : t.val < 96 := t.isLt
    have h := small_apply m c t (show Fin 1024 from y 0) (show Fin 128 from y 1) ⟨t.val / 6 * 1024 + (show Fin 1024 from y 0).val, by omega⟩ rfl
    rw [hy]
    refine h.trans ?_
    have e0 : ((((cfg0.win 7).blk t).view.emb (ix2 (show Fin 1024 from y 0) (show Fin 128 from y 1))) 0 : ℕ) = t.val / 6 * 1024 + (show Fin 1024 from y 0).val := by
      blk_simp [idx t]
    have e1 : ((((cfg0.win 7).blk t).view.emb (ix2 (show Fin 1024 from y 0) (show Fin 128 from y 1))) 1 : ℕ) = (show Fin 128 from y 1).val := by
      blk_simp [idx t]
    exact congrArg₂ (fun (n : Fin 16384) (j : Fin 128) => (at_ m c (img n) (tokenOf n)).through fun k => m ((c : Thread nD τ).loc main_arg5) (ix3 0 j k)) (Fin.ext e0.symm) (Fin.ext e1.symm)

end Cert.Inproj
-- ==== Proof.InprojClaim.lean ====
module

public import proofs.«01_k».proof.Defs
public import proofs.«01_k».proof.Proof.InprojArray
public import proofs.«01_k».proof.Proof.Gen.Reference2Ideal.Run

@[expose] public section

/-!
# The input projection's claim: kernel and reference end with the same two arrays
-/

noncomputable section

namespace Cert.Inproj

open Idealize.ShloMosaic Idealize.ShloMosaic.TcCoe Idealize.SL.Sem

theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => P m c, fun c => D m c, ?_, ?_⟩
  · refine (θ_run Cert.Kernel2Ideal.defs _ _).mono (fun r h c => ?_)
      (θ_run_and ((θ_run Cert.Kernel2Ideal.defs _ _).mono (fun _ h => h.1) (run (F := Ideal) m ρ)) (frame (F := Ideal) m ρ))
    exact ⟨((h.1 c).1 6).trans (arr_main m c), ((h.1 c).1 7).trans (arr_small m c), h.2.1 c⟩
  · refine (θ_run Cert.Reference2Ideal.defs _ _).mono (fun r h c => ⟨(h c).1.trans ?_, (h c).2.1.trans ?_, (h c).2.2⟩)
      (Cert.Reference2Ideal.Value.run (F := Ideal) m' ρ')
    · rw [Cert.Reference2Ideal.Read.val_main_v32_eq]
      obtain ⟨e0, e1, e2, e3, e4, e5⟩ := hagree c
      rw [e0, e1, e2, e3, e4]
      refine funext fun i => ?_
      rw [ValueIdx.eq_ix2 (n0 := 16384) (n1 := 15360) i]
      exact ref_main _ _ _ _ _ _ _
    · rw [Cert.Reference2Ideal.Read.val_main_v31_eq]
      obtain ⟨e0, e1, e2, e3, e4, e5⟩ := hagree c
      rw [e0, e1, e2, e3, e5]
      refine funext fun i => ?_
      rw [ValueIdx.eq_ix2 (n0 := 16384) (n1 := 128) i]
      exact ref_small _ _ _ _ _ _ _

end Cert.Inproj
-- ==== Proof.MergeKernel.lean ====
module

public import proofs.«01_k».proof.Proof.Merge
public import proofs.«01_k».proof.Proof.Gen.Kernel3Ideal.Value
public import Idealize.ShloMosaic.Lib.Pointwise

@[expose] public section

/-!
# The merge's kernel: what one grid point writes, read one token at a time
-/

set_option maxRecDepth 16384

noncomputable section

namespace Cert.Merge

open Cert.Kernel3Ideal Cert.Kernel3Ideal.Gen Idealize.ShloMosaic

theorem hz2 : (![0, 0] : Fin 2 → ℕ) = fun _ => 0 := funext fun a => by fin_cases a <;> rfl
theorem hz3 : (![0, 0, 0] : Fin 3 → ℕ) = fun _ => 0 := funext fun a => by fin_cases a <;> rfl

/-- A column of a matrix given as two halves side by side. -/
def side (lo hi : Fin 1024 → EReal) (k : Fin 2048) : EReal :=
  if h : k.val < 1024 then lo ⟨k.val, h⟩ else hi ⟨k.val - 1024, by omega⟩

/-- Token `r` of a grid point, gathered from the blocks the point reads. -/
def blk (x0 x1 x2 : S256x1024.Idx → EReal) (x3 : S256x1024.Idx → EReal) (x4 : S256x1024.Idx → EReal) (x5 : S1x1024.Idx → EReal) (x6 x7 x8 : S1x1024x2048.Idx → EReal) (x9 x10 x11 x12 x13 x14 : S256x1024.Idx → EReal) (x15 : S1x2048x2048.Idx → EReal) (x16 : S256x2048.Idx → EReal) (x17 : S1x1x2048.Idx → EReal) (x18 : S1x2048.Idx → EReal) (r : Fin 256) : Tok where
  a k := x0 (ix2 r k)
  za k := x1 (ix2 r k)
  f k := x2 (ix2 r k)
  s k := x3 (ix2 r k)
  zs k := x4 (ix2 r k)
  ns k := x5 (ix2 0 k)
  wa x k := x6 (ix3 0 x k)
  wf x k := x7 (ix3 0 x k)
  ws x k := x8 (ix3 0 x k)
  ga := side (fun k => x9 (ix2 r k)) fun k => x10 (ix2 r k)
  gf := side (fun k => x11 (ix2 r k)) fun k => x12 (ix2 r k)
  gs := side (fun k => x13 (ix2 r k)) fun k => x14 (ix2 r k)
  wo y j := x15 (ix3 0 y j)
  x j := x16 (ix2 r j)
  g j := x17 (ix3 0 0 j)
  nf j := x18 (ix2 0 j)

variable (x0 x1 x2 : S256x1024.Idx → EReal) (x3 : S256x1024.Idx → EReal) (x4 : S256x1024.Idx → EReal) (x5 : S1x1024.Idx → EReal) (x6 x7 x8 : S1x1024x2048.Idx → EReal) (x9 x10 x11 x12 x13 x14 : S256x1024.Idx → EReal) (x15 : S1x2048x2048.Idx → EReal) (x16 : S256x2048.Idx → EReal) (x17 : S1x1x2048.Idx → EReal) (x18 : S1x2048.Idx → EReal) (r : Fin 256)

theorem ker_attn (k : Fin 1024) : k0_pay2 (F := Ideal) x1 x0 (ix2 r k) = (blk x0 x1 x2 x3 x4 x5 x6 x7 x8 x9 x10 x11 x12 x13 x14 x15 x16 x17 x18 r).attn k := by
  pointwise [k0_pay2]
  rfl

theorem ker_ssm (k : Fin 1024) : k0_pay3 (F := Ideal) x4 x3 x5 (ix2 r k) = (blk x0 x1 x2 x3 x4 x5 x6 x7 x8 x9 x10 x11 x12 x13 x14 x15 x16 x17 x18 r).ssm k := by
  pointwise [k0_pay3]
  rfl

/-- A load of one half of a matrix's columns, read at an index. -/
theorem ld_half (w : S1x1024x2048.Idx → EReal) (o : ℕ) (inb) (x k : Fin 1024) (h : o + k.val < 2048) :
    View.ld (Val := Elt Ideal) (e' := .bf16) w (Rect.unit (s := S1x1024x2048) ![0, 0, o] ![1, 1024, 1024] inb) (ix3 0 x k) = w (ix3 0 x ⟨o + k.val, h⟩) := by
  refine congrArg w (funext fun a => Fin.ext ?_)
  match a with
  | ⟨0, _⟩ => rfl
  | ⟨1, _⟩ => show 0 + 1 * x.val = x.val; omega
  | ⟨2, _⟩ => show o + 1 * k.val = o + k.val; omega

theorem side_lo (lo hi : Fin 1024 → EReal) (k : Fin 1024) (h : 0 + k.val < 2048) : side lo hi ⟨0 + k.val, h⟩ = lo k := by
  have := k.isLt
  unfold side
  rw [dif_pos (by simp only; omega)]
  exact congrArg lo (Fin.ext (Nat.zero_add _))

theorem side_hi (lo hi : Fin 1024 → EReal) (k : Fin 1024) (h : 1024 + k.val < 2048) : side lo hi ⟨1024 + k.val, h⟩ = hi k := by
  unfold side
  rw [dif_neg (by simp only; omega)]
  exact congrArg hi (Fin.ext (Nat.add_sub_cancel_left _ _))

theorem gate4 (A : S256x1024.Idx → EReal) (wa : S1x1024x1024.Idx → EReal) (f : S256x1024.Idx → EReal) (wf : S1x1024x1024.Idx → EReal)
    (S : S256x1024.Idx → EReal) (ws : S1x1024x1024.Idx → EReal) (g1 g2 g3 : S256x1024.Idx → EReal) (r : Fin 256) (k : Fin 1024)
    {A' S' Wa Wf Ws : Fin 1024 → EReal} (hA : ∀ x, A (ix2 r x) = A' x) (hS : ∀ x, S (ix2 r x) = S' x)
    (ha : ∀ x, wa (ix3 0 x k) = Wa x) (hf : ∀ x, wf (ix3 0 x k) = Wf x) (hs : ∀ x, ws (ix3 0 x k) = Ws x) :
    k0_pay4 (F := Ideal) A wa f wf S ws g1 g2 g3 (ix2 r k)
      = Ideal.logistic (g1 (ix2 r k)) * ∑ x, A' x * Wa x + Ideal.logistic (g2 (ix2 r k)) * ∑ x, f (ix2 r x) * Wf x
        + Ideal.logistic (g3 (ix2 r k)) * ∑ x, S' x * Ws x := by
  pointwise [k0_pay4]
  simp only [hA, hS, ha, hf, hs]

theorem gate5 (A : S256x1024.Idx → EReal) (wa : S1x1024x1024.Idx → EReal) (f : S256x1024.Idx → EReal) (wf : S1x1024x1024.Idx → EReal)
    (S : S256x1024.Idx → EReal) (ws : S1x1024x1024.Idx → EReal) (g1 g2 g3 : S256x1024.Idx → EReal) (r : Fin 256) (k : Fin 1024)
    {A' S' Wa Wf Ws : Fin 1024 → EReal} (hA : ∀ x, A (ix2 r x) = A' x) (hS : ∀ x, S (ix2 r x) = S' x)
    (ha : ∀ x, wa (ix3 0 x k) = Wa x) (hf : ∀ x, wf (ix3 0 x k) = Wf x) (hs : ∀ x, ws (ix3 0 x k) = Ws x) :
    k0_pay5 (F := Ideal) A wa f wf S ws g1 g2 g3 (ix2 r k)
      = Ideal.logistic (g1 (ix2 r k)) * ∑ x, A' x * Wa x + Ideal.logistic (g2 (ix2 r k)) * ∑ x, f (ix2 r x) * Wf x
        + Ideal.logistic (g3 (ix2 r k)) * ∑ x, S' x * Ws x := by
  pointwise [k0_pay5]
  simp only [hA, hS, ha, hf, hs]

/-- The two stores cover the block. -/
theorem both (hi lo : S256x1024.Idx → EReal) (y : S256x2048.Idx) :
    ∃ p ∈ ([⟨Rect.unit (s := S256x2048) ![0, 1024] ![256, 1024] inb_S256x2048_S256x1024_0_1024, hi⟩,
      ⟨Rect.unit (s := S256x2048) ![0, 0] ![256, 1024] inb_S256x2048_S256x1024_0_0, lo⟩] : List (View.Piece (Elt Ideal) S256x2048 .bf16)), y ∈ p.1.set := by
  have h0 : (y 0).val < 256 := (y 0).isLt
  have h1 : (y 1).val < 2048 := (y 1).isLt
  by_cases h : (y 1).val < 1024
  · have hm : y ∈ (Rect.unit (s := S256x2048) ![0, 0] ![256, 1024] inb_S256x2048_S256x1024_0_0).set := Rect.mem_set_unit.mpr fun a => by
      match a with
      | ⟨0, _⟩ => exact ⟨Nat.zero_le _, by show (y 0).val < 0 + 256; omega⟩
      | ⟨1, _⟩ => exact ⟨by show 0 ≤ (y 1).val; omega, by show (y 1).val < 0 + 1024; omega⟩
    exact ⟨_, List.mem_cons_of_mem _ (List.mem_cons_self ..), hm⟩
  · have hm : y ∈ (Rect.unit (s := S256x2048) ![0, 1024] ![256, 1024] inb_S256x2048_S256x1024_0_1024).set := Rect.mem_set_unit.mpr fun a => by
      match a with
      | ⟨0, _⟩ => exact ⟨Nat.zero_le _, by show (y 0).val < 0 + 256; omega⟩
      | ⟨1, _⟩ => exact ⟨by show 1024 ≤ (y 1).val; omega, by show (y 1).val < 1024 + 1024; omega⟩
    exact ⟨_, List.mem_cons_self .., hm⟩

/-- The two halves of the merged branches, stored side by side and read back whole. -/
theorem halves (y : S256x2048.Idx) :
    View.canon (Val := Elt Ideal) (s := S256x2048) (e := .bf16) [⟨Rect.unit (s := S256x2048) ![0, 1024] ![256, 1024] inb_S256x2048_S256x1024_0_1024,
        k0_pay5 (F := Ideal) (k0_pay2 (F := Ideal) x1 x0) (View.ld x6 (Rect.unit (s := S1x1024x2048) ![0, 0, 1024] ![1, 1024, 1024] inb_S1x1024x2048_S1x1024x1024_0_0_1024)) x2
          (View.ld x7 (Rect.unit (s := S1x1024x2048) ![0, 0, 1024] ![1, 1024, 1024] inb_S1x1024x2048_S1x1024x1024_0_0_1024)) (k0_pay3 (F := Ideal) x4 x3 x5)
          (View.ld x8 (Rect.unit (s := S1x1024x2048) ![0, 0, 1024] ![1, 1024, 1024] inb_S1x1024x2048_S1x1024x1024_0_0_1024)) x10 x12 x14⟩,
      ⟨Rect.unit (s := S256x2048) ![0, 0] ![256, 1024] inb_S256x2048_S256x1024_0_0,
        k0_pay4 (F := Ideal) (k0_pay2 (F := Ideal) x1 x0) (View.ld x6 (Rect.unit (s := S1x1024x2048) ![0, 0, 0] ![1, 1024, 1024] inb_S1x1024x2048_S1x1024x1024_0_0_0)) x2
          (View.ld x7 (Rect.unit (s := S1x1024x2048) ![0, 0, 0] ![1, 1024, 1024] inb_S1x1024x2048_S1x1024x1024_0_0_0)) (k0_pay3 (F := Ideal) x4 x3 x5)
          (View.ld x8 (Rect.unit (s := S1x1024x2048) ![0, 0, 0] ![1, 1024, 1024] inb_S1x1024x2048_S1x1024x1024_0_0_0)) x9 x11 x13⟩] y = (blk x0 x1 x2 x3 x4 x5 x6 x7 x8 x9 x10 x11 x12 x13 x14 x15 x16 x17 x18 (y 0)).merged (y 1) := by
  refine View.canon_apply_of_pieces (Val := Elt Ideal) (e := .bf16) (S := S256x2048) (fun y : S256x2048.Idx => (blk x0 x1 x2 x3 x4 x5 x6 x7 x8 x9 x10 x11 x12 x13 x14 x15 x16 x17 x18 (y 0)).merged (y 1)) _ ?_ y ?_
  · intro p hp
    rcases List.mem_cons.mp hp with rfl | hp
    · intro x
      obtain ⟨p, q, rfl⟩ : ∃ (p : Fin 256) (q : Fin 1024), x = ix2 p q := ⟨x 0, x 1, eq_ix2 x⟩
      have hq := q.isLt
      have e : ∀ h, (Rect.unit (s := S256x2048) ![0, 1024] ![256, 1024] inb_S256x2048_S256x1024_0_1024).emb (ix2 p q) = ix2 p ⟨1024 + q.val, h⟩ := fun h => by
        funext a; apply Fin.ext
        match a with
        | ⟨0, _⟩ => show 0 + 1 * p.val = p.val; omega
        | ⟨1, _⟩ => show 1024 + 1 * q.val = 1024 + q.val; omega
      have h : 1024 + q.val < 2048 := by omega
      rw [e h]
      refine (gate5 _ _ _ _ _ _ _ _ _ p q (ker_attn x0 x1 x2 x3 x4 x5 x6 x7 x8 x9 x10 x11 x12 x13 x14 x15 x16 x17 x18 p) (ker_ssm x0 x1 x2 x3 x4 x5 x6 x7 x8 x9 x10 x11 x12 x13 x14 x15 x16 x17 x18 p)
        (fun x => ld_half _ _ _ x q h) (fun x => ld_half _ _ _ x q h) (fun x => ld_half _ _ _ x q h)).trans ?_
      show _ = (blk x0 x1 x2 x3 x4 x5 x6 x7 x8 x9 x10 x11 x12 x13 x14 x15 x16 x17 x18 p).merged ⟨1024 + q.val, h⟩
      simp only [Tok.merged, blk, side_hi]

    rcases List.mem_cons.mp hp with rfl | hp
    · intro x
      obtain ⟨p, q, rfl⟩ : ∃ (p : Fin 256) (q : Fin 1024), x = ix2 p q := ⟨x 0, x 1, eq_ix2 x⟩
      have hq := q.isLt
      have e : ∀ h, (Rect.unit (s := S256x2048) ![0, 0] ![256, 1024] inb_S256x2048_S256x1024_0_0).emb (ix2 p q) = ix2 p ⟨0 + q.val, h⟩ := fun h => by
        funext a; apply Fin.ext
        match a with
        | ⟨0, _⟩ => show 0 + 1 * p.val = p.val; omega
        | ⟨1, _⟩ => show 0 + 1 * q.val = 0 + q.val; omega
      have h : 0 + q.val < 2048 := by omega
      rw [e h]
      refine (gate4 _ _ _ _ _ _ _ _ _ p q (ker_attn x0 x1 x2 x3 x4 x5 x6 x7 x8 x9 x10 x11 x12 x13 x14 x15 x16 x17 x18 p) (ker_ssm x0 x1 x2 x3 x4 x5 x6 x7 x8 x9 x10 x11 x12 x13 x14 x15 x16 x17 x18 p)
        (fun x => ld_half _ _ _ x q h) (fun x => ld_half _ _ _ x q h) (fun x => ld_half _ _ _ x q h)).trans ?_
      show _ = (blk x0 x1 x2 x3 x4 x5 x6 x7 x8 x9 x10 x11 x12 x13 x14 x15 x16 x17 x18 p).merged ⟨0 + q.val, h⟩
      simp only [Tok.merged, blk, side_lo]

    · exact absurd hp (List.not_mem_nil)
  · exact both _ _ y

theorem ker_out (M : S256x2048.Idx → EReal) (hM : ∀ y, M (ix2 r y) = (blk x0 x1 x2 x3 x4 x5 x6 x7 x8 x9 x10 x11 x12 x13 x14 x15 x16 x17 x18 r).merged y) (j : Fin 2048) :
    k0_pay1 (F := Ideal) M x15 x16 x17 x18 (ix2 r j) = (blk x0 x1 x2 x3 x4 x5 x6 x7 x8 x9 x10 x11 x12 x13 x14 x15 x16 x17 x18 r).out j := by
  pointwise [k0_pay1]
  simp only [hM]
  rfl

theorem out19  (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024x2048 .bf16) (harg7 : arg7.IsWhole) (arg8 : Memref sig .tc .vmem S1x1024x2048 .bf16) (harg8 : arg8.IsWhole) (arg9 : Memref sig .tc .vmem S1x1024x2048 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1x2048x2048 .bf16) (harg16 : arg16.IsWhole) (arg17 : Memref sig .tc .vmem S256x2048 .f32) (harg17 : arg17.IsWhole) (arg18 : Memref sig .tc .vmem S1x1x2048 .f32) (harg18 : arg18.IsWhole) (arg19 : Memref sig .tc .vmem S1x2048 .f32) (harg19 : arg19.IsWhole) (arg20 : Memref sig .tc .vmem S256x2048 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x2048 .bf16) (harg23 : arg23.IsWhole)
    (x0 : Vec Ideal S256x1024 .bf16) (x1 : Vec Ideal S256x1024 .bf16) (x2 : Vec Ideal S256x1024 .bf16) (x3 : Vec Ideal S256x1024 .f32) (x4 : Vec Ideal S256x1024 .bf16) (x5 : Vec Ideal S1x1024 .f32) (x6 : Vec Ideal S1x1024x2048 .bf16) (x7 : Vec Ideal S1x1024x2048 .bf16) (x8 : Vec Ideal S1x1024x2048 .bf16) (x9 : Vec Ideal S256x1024 .bf16) (x10 : Vec Ideal S256x1024 .bf16) (x11 : Vec Ideal S256x1024 .bf16) (x12 : Vec Ideal S256x1024 .bf16) (x13 : Vec Ideal S256x1024 .bf16) (x14 : Vec Ideal S256x1024 .bf16) (x15 : Vec Ideal S1x2048x2048 .bf16) (x16 : Vec Ideal S256x2048 .f32) (x17 : Vec Ideal S1x1x2048 .f32) (x18 : Vec Ideal S1x2048 .f32)   (r : Fin 256) (j : Fin 2048) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 (ix2 r j) = (blk x0 x1 x2 x3 x4 x5 x6 x7 x8 x9 x10 x11 x12 x13 x14 x15 x16 x17 x18 r).out j := by
  unfold out0_A_19; rw [View.read_writes_junk_eq_canon]
  unfold kernelRun0_A; dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S1x1024) hz2, View.ld_unit_zero (S := S256x2048) hz2, View.ld_unit_zero (S := S1x2048) hz2, View.ld_unit_zero (S := S1x2048x2048) hz3, View.ld_unit_zero (S := S1x1x2048) hz3, View.readCov_unit_zero (S := S256x1024) _ hz2]
  rw [View.readCov_eq_canon_ld, View.ld_unit_zero (S := S256x2048) hz2]
  · exact ker_out x0 x1 x2 x3 x4 x5 x6 x7 x8 x9 x10 x11 x12 x13 x14 x15 x16 x17 x18 r _ (fun y => halves x0 x1 x2 x3 x4 x5 x6 x7 x8 x9 x10 x11 x12 x13 x14 x15 x16 x17 x18 (ix2 r y)) j
  · exact both _ _

end Cert.Merge
-- ==== Proof.MergeRef.lean ====
module

public import proofs.«01_k».proof.Proof.Merge
public import proofs.«01_k».proof.Proof.Gen.Reference3Ideal.Read
public import Idealize.ShloMosaic.Lib.Pointwise

@[expose] public section

/-!
# The merge's reference, read one token at a time
-/

noncomputable section

namespace Cert.Merge

open Cert.Reference3Ideal Cert.Reference3Ideal.Read Idealize.ShloMosaic

/-- The row of the Fourier branch's result that holds token `r`: its last two blocks of 512 rows are exchanged. -/
def swap (r : Fin 2048) : Fin 2048 :=
  ⟨if r.val < 1024 then r.val else if r.val < 1536 then r.val + 512 else r.val - 512, by split_ifs <;> omega⟩

/-- Token `r` of image `b`, gathered from the arguments. -/
def tok (x0 : S8x2048x15360.Idx → EReal) (x1 x2 x3 : S8x2048x1024.Idx → EReal) (x4 : S8x2048x2048.Idx → EReal)
    (x5 : S8x2048.Idx → EReal) (x6 : S1024.Idx → EReal) (x7 x8 x9 : S2x1024x2048.Idx → EReal)
    (x10 : S2x2048x2048.Idx → EReal) (x11 : S2048.Idx → EReal) (b : Fin 8) (r : Fin 2048) : Tok where
  a k := x1 (ix3 b r k)
  za k := x0 (ix3 b r ⟨3072 + k.val, by omega⟩)
  f k := x2 (ix3 b (swap r) k)
  s k := x3 (ix3 b r k)
  zs k := x0 (ix3 b r ⟨8192 + k.val, by omega⟩)
  ns k := x6 (ix1 k)
  wa x k := x7 (ix3 1 x k)
  wf x k := x8 (ix3 1 x k)
  ws x k := x9 (ix3 1 x k)
  ga k := x0 (ix3 b r ⟨9216 + k.val, by omega⟩)
  gf k := x0 (ix3 b r ⟨11264 + k.val, by omega⟩)
  gs k := x0 (ix3 b r ⟨13312 + k.val, by omega⟩)
  wo y j := x10 (ix3 1 y j)
  x j := x4 (ix3 b r j)
  g j := x5 (ix2 b j)
  nf j := x11 (ix1 j)

variable (x0 : S8x2048x15360.Idx → EReal) (x1 x2 x3 : S8x2048x1024.Idx → EReal) (x4 : S8x2048x2048.Idx → EReal)
    (x5 : S8x2048.Idx → EReal) (x6 : S1024.Idx → EReal) (x7 x8 x9 : S2x1024x2048.Idx → EReal)
    (x10 : S2x2048x2048.Idx → EReal) (x11 : S2048.Idx → EReal) (b : Fin 8) (r : Fin 2048)

theorem ref_attn (k : Fin 1024) : val_main_v16 (F := Ideal) x0 x1 (ix3 b r k) = (tok x0 x1 x2 x3 x4 x5 x6 x7 x8 x9 x10 x11 b r).attn k := by
  pointwise [val_main_v0, val_main_v1, val_main_v2, val_main_v3, val_main_v4, val_main_v5, val_main_v6, val_main_v7, val_main_v8, val_main_v9, val_main_v10, val_main_v11, val_main_v12, val_main_v13, val_main_v14, val_main_call0_v0, val_main_call0_v1, val_main_call0_v2, val_main_call0_v3, val_main_call0_v4, val_main_call0_v5, val_main_v15, val_main_v16, val_main_call0_cst, val_main_call0_cst_0, val_main_call1_cst, val_main_call1_cst_0, val_main_cst, val_main_cst_0, val_main_cst_1, val_main_cst_2, val_main_cst_3, val_main_cst_4, val_main_cst_5, val_main_cst_6, val_main_cst_7, val_main_cst_8, val_main_cst_9, val_main_cst_10]
  rfl

theorem ref_f (k : Fin 1024) : val_main_v13 (F := Ideal) x2 (ix3 b r k) = (tok x0 x1 x2 x3 x4 x5 x6 x7 x8 x9 x10 x11 b r).f k := by
  pointwise [val_main_v0, val_main_v1, val_main_v2, val_main_v3, val_main_v4, val_main_v5, val_main_v6, val_main_v7, val_main_v8, val_main_v9, val_main_v10, val_main_v11, val_main_v12, val_main_v13, val_main_call0_cst, val_main_call0_cst_0, val_main_call1_cst, val_main_call1_cst_0, val_main_cst, val_main_cst_0, val_main_cst_1, val_main_cst_2, val_main_cst_3, val_main_cst_4, val_main_cst_5, val_main_cst_6, val_main_cst_7, val_main_cst_8, val_main_cst_9, val_main_cst_10]
  show _ = x2 (ix3 b (swap r) k)
  have h := r.isLt
  split_ifs <;> refine congrArg (fun q => x2 (ix3 b q k)) (Fin.ext ?_) <;> simp only [swap] <;> split_ifs <;> omega

theorem ref_ssm (k : Fin 1024) : val_main_v39 (F := Ideal) x0 x3 x6 (ix3 b r k) = (tok x0 x1 x2 x3 x4 x5 x6 x7 x8 x9 x10 x11 b r).ssm k := by
  pointwise [val_main_v0, val_main_v1, val_main_v2, val_main_v3, val_main_v4, val_main_v5, val_main_v6, val_main_v7, val_main_v8, val_main_v9, val_main_v10, val_main_v11, val_main_v12, val_main_v13, val_main_v14, val_main_call0_v0, val_main_call0_v1, val_main_call0_v2, val_main_call0_v3, val_main_call0_v4, val_main_call0_v5, val_main_v15, val_main_v16, val_main_v17, val_main_v18, val_main_v19, val_main_v20, val_main_v21, val_main_v22, val_main_v23, val_main_v24, val_main_call1_v0, val_main_call1_v1, val_main_call1_v2, val_main_call1_v3, val_main_call1_v4, val_main_call1_v5, val_main_v25, val_main_v26, val_main_v27, val_main_v28, val_main_v29, val_main_v30, val_main_v31, val_main_v32, val_main_v33, val_main_v34, val_main_v35, val_main_v36, val_main_v37, val_main_v38, val_main_v39, val_main_call0_cst, val_main_call0_cst_0, val_main_call1_cst, val_main_call1_cst_0, val_main_cst, val_main_cst_0, val_main_cst_1, val_main_cst_2, val_main_cst_3, val_main_cst_4, val_main_cst_5, val_main_cst_6, val_main_cst_7, val_main_cst_8, val_main_cst_9, val_main_cst_10]
  rfl

theorem ref_merged (k : Fin 2048) : val_main_v66 (F := Ideal) x0 x1 x2 x3 x6 x7 x8 x9 (ix3 b r k) = (tok x0 x1 x2 x3 x4 x5 x6 x7 x8 x9 x10 x11 b r).merged k := by
  pointwise [val_main_v0, val_main_v3, val_main_v4, val_main_v5, val_main_v17, val_main_v18, val_main_v19, val_main_v20, val_main_v21, val_main_v22, val_main_v23, val_main_v24, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_call0_cst, val_main_call0_cst_0, val_main_call1_cst, val_main_call1_cst_0, val_main_cst, val_main_cst_0, val_main_cst_1, val_main_cst_2, val_main_cst_3, val_main_cst_4, val_main_cst_5, val_main_cst_6, val_main_cst_7, val_main_cst_8, val_main_cst_9, val_main_cst_10]
  simp only [ref_attn x0 x1 x2 x3 x4 x5 x6 x7 x8 x9 x10 x11, ref_f x0 x1 x2 x3 x4 x5 x6 x7 x8 x9 x10 x11, ref_ssm x0 x1 x2 x3 x4 x5 x6 x7 x8 x9 x10 x11]
  rfl

theorem ref_resid (j : Fin 2048) : val_main_v74 (F := Ideal) x0 x1 x2 x3 x4 x5 x6 x7 x8 x9 x10 (ix3 b r j) = (tok x0 x1 x2 x3 x4 x5 x6 x7 x8 x9 x10 x11 b r).resid j := by
  pointwise [val_main_v67, val_main_v68, val_main_v69, val_main_v70, val_main_v71, val_main_v72, val_main_v73, val_main_v74, val_main_call0_cst, val_main_call0_cst_0, val_main_call1_cst, val_main_call1_cst_0, val_main_cst, val_main_cst_0, val_main_cst_1, val_main_cst_2, val_main_cst_3, val_main_cst_4, val_main_cst_5, val_main_cst_6, val_main_cst_7, val_main_cst_8, val_main_cst_9, val_main_cst_10]
  simp only [ref_merged x0 x1 x2 x3 x4 x5 x6 x7 x8 x9 x10 x11]
  rfl

theorem ref_out (j : Fin 2048) : val_main_v87 (F := Ideal) x0 x1 x2 x3 x4 x5 x6 x7 x8 x9 x10 x11 (ix3 b r j) = (tok x0 x1 x2 x3 x4 x5 x6 x7 x8 x9 x10 x11 b r).out j := by
  pointwise [val_main_v75, val_main_v76, val_main_v77, val_main_v78, val_main_v79, val_main_v80, val_main_v81, val_main_v82, val_main_v83, val_main_v84, val_main_v85, val_main_v86, val_main_v87, val_main_call0_cst, val_main_call0_cst_0, val_main_call1_cst, val_main_call1_cst_0, val_main_cst, val_main_cst_0, val_main_cst_1, val_main_cst_2, val_main_cst_3, val_main_cst_4, val_main_cst_5, val_main_cst_6, val_main_cst_7, val_main_cst_8, val_main_cst_9, val_main_cst_10]
  simp only [ref_resid x0 x1 x2 x3 x4 x5 x6 x7 x8 x9 x10 x11]
  rfl

end Cert.Merge
-- ==== Proof.MergeBlocks.lean ====
module

public import proofs.«01_k».proof.Proof.MergeKernel
public import proofs.«01_k».proof.Proof.MergeRef
public import Idealize.ShloMosaic.Lib.Pipeline.ValueKit
public import Idealize.ShloMosaic.Lib.Claim

@[expose] public section

/-!
# The merge's blocks: one grid point's blocks are one tile of 256 tokens of one image
-/

set_option maxRecDepth 16384

noncomputable section

namespace Cert.Merge

open Cert.Kernel3Ideal Cert.Kernel3Ideal.Gen Idealize.ShloMosaic Idealize.ShloMosaic.TcCoe

/-- The tile of the Fourier branch's rows that point `t` takes. -/
def tile (t : ℕ) : ℕ := t / 8 * 8 + if t % 8 < 4 then t % 8 else if t % 8 < 6 then t % 8 + 2 else t % 8 - 2

theorem idx : ∀ t : Fin grid0.N,
    win0_0.index t = ![t.val, 0] ∧ win0_1.index t = ![t.val, 3] ∧ win0_2.index t = ![tile t.val, 0] ∧
    win0_3.index t = ![t.val, 0] ∧ win0_4.index t = ![t.val, 8] ∧ win0_5.index t = ![0, 0] ∧
    win0_6.index t = ![1, 0, 0] ∧ win0_7.index t = ![1, 0, 0] ∧ win0_8.index t = ![1, 0, 0] ∧
    win0_9.index t = ![t.val, 9] ∧ win0_10.index t = ![t.val, 10] ∧ win0_11.index t = ![t.val, 11] ∧
    win0_12.index t = ![t.val, 12] ∧ win0_13.index t = ![t.val, 13] ∧ win0_14.index t = ![t.val, 14] ∧
    win0_15.index t = ![1, 0, 0] ∧ win0_16.index t = ![t.val, 0] ∧ win0_17.index t = ![t.val / 8, 0, 0] ∧
    win0_18.index t = ![0, 0] ∧ win0_19.index t = ![t.val, 0] := by
  decide +kernel

variable (m : (ℓ : Loc nD τ sig) → Buf (Elt Ideal) ℓ) (c : Dev nD)

/-- The token the arguments hold in row `r` of image `b`. -/
def at_ (b : Fin 8) (r : Fin 2048) : Tok :=
  tok (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b r

/-- Two halves of the gates' columns are the gates' columns. -/
theorem side_eq (lo hi : Fin 1024 → EReal) (f : Fin 2048 → EReal) (h0 : ∀ k : Fin 1024, lo k = f ⟨k.val, by omega⟩)
    (h1 : ∀ k : Fin 1024, hi k = f ⟨1024 + k.val, by omega⟩) : side lo hi = f := by
  funext k
  unfold side
  split_ifs with h
  · exact h0 _
  · exact (h1 _).trans (congrArg f (Fin.ext (by simp only; omega)))

variable (t : Fin cfg0.N) (r : Fin 256) (b : Fin 8) (q : Fin 2048) (hb : b.val = t.val / 8) (hq : q.val = t.val % 8 * 256 + r.val)

include hb hq

theorem in0 (k : Fin 1024) : iblk m c 0 t (ix2 r k) = m ((c : Thread nD τ).loc main_arg1) (ix3 b q k) := by
  blk_ext! [iblk, V, idx t]

theorem in1 (k : Fin 1024) : iblk m c 1 t (ix2 r k) = m ((c : Thread nD τ).loc main_arg0) (ix3 b q ⟨3072 + k.val, by omega⟩) := by
  blk_ext! [iblk, V, idx t]

theorem in2 (k : Fin 1024) : iblk m c 2 t (ix2 r k) = m ((c : Thread nD τ).loc main_arg2) (ix3 b (swap q) k) := by
  blk_ext! [iblk, V, idx t, tile, swap] <;> split_ifs <;> omega

theorem in3 (k : Fin 1024) : iblk m c 3 t (ix2 r k) = m ((c : Thread nD τ).loc main_arg3) (ix3 b q k) := by
  blk_ext! [iblk, V, idx t]

theorem in4 (k : Fin 1024) : iblk m c 4 t (ix2 r k) = m ((c : Thread nD τ).loc main_arg0) (ix3 b q ⟨8192 + k.val, by omega⟩) := by
  blk_ext! [iblk, V, idx t]

theorem in5 (k : Fin 1024) : iblk m c 5 t (ix2 0 k) = m ((c : Thread nD τ).loc main_arg6) (ix1 k) := by
  blk_ext! [iblk, V, idx t]

theorem in6 (x : Fin 1024) (k : Fin 2048) : iblk m c 6 t (ix3 0 x k) = m ((c : Thread nD τ).loc main_arg7) (ix3 1 x k) := by
  blk_ext! [iblk, V, idx t]

theorem in7 (x : Fin 1024) (k : Fin 2048) : iblk m c 7 t (ix3 0 x k) = m ((c : Thread nD τ).loc main_arg8) (ix3 1 x k) := by
  blk_ext! [iblk, V, idx t]

theorem in8 (x : Fin 1024) (k : Fin 2048) : iblk m c 8 t (ix3 0 x k) = m ((c : Thread nD τ).loc main_arg9) (ix3 1 x k) := by
  blk_ext! [iblk, V, idx t]

theorem in9 (k : Fin 1024) : iblk m c 9 t (ix2 r k) = m ((c : Thread nD τ).loc main_arg0) (ix3 b q ⟨9216 + k.val, by omega⟩) := by
  blk_ext! [iblk, V, idx t]

theorem in10 (k : Fin 1024) : iblk m c 10 t (ix2 r k) = m ((c : Thread nD τ).loc main_arg0) (ix3 b q ⟨10240 + k.val, by omega⟩) := by
  blk_ext! [iblk, V, idx t]

theorem in11 (k : Fin 1024) : iblk m c 11 t (ix2 r k) = m ((c : Thread nD τ).loc main_arg0) (ix3 b q ⟨11264 + k.val, by omega⟩) := by
  blk_ext! [iblk, V, idx t]

theorem in12 (k : Fin 1024) : iblk m c 12 t (ix2 r k) = m ((c : Thread nD τ).loc main_arg0) (ix3 b q ⟨12288 + k.val, by omega⟩) := by
  blk_ext! [iblk, V, idx t]

theorem in13 (k : Fin 1024) : iblk m c 13 t (ix2 r k) = m ((c : Thread nD τ).loc main_arg0) (ix3 b q ⟨13312 + k.val, by omega⟩) := by
  blk_ext! [iblk, V, idx t]

theorem in14 (k : Fin 1024) : iblk m c 14 t (ix2 r k) = m ((c : Thread nD τ).loc main_arg0) (ix3 b q ⟨14336 + k.val, by omega⟩) := by
  blk_ext! [iblk, V, idx t]

theorem in15 (x k : Fin 2048) : iblk m c 15 t (ix3 0 x k) = m ((c : Thread nD τ).loc main_arg10) (ix3 1 x k) := by
  blk_ext! [iblk, V, idx t]

theorem in16 (k : Fin 2048) : iblk m c 16 t (ix2 r k) = m ((c : Thread nD τ).loc main_arg4) (ix3 b q k) := by
  blk_ext! [iblk, V, idx t]

theorem in17 (k : Fin 2048) : iblk m c 17 t (ix3 0 0 k) = m ((c : Thread nD τ).loc main_arg5) (ix2 b k) := by
  blk_ext! [iblk, V, idx t]

theorem in18 (k : Fin 2048) : iblk m c 18 t (ix2 0 k) = m ((c : Thread nD τ).loc main_arg11) (ix1 k) := by
  blk_ext! [iblk, V, idx t]

/-- Row `r` of point `t`'s blocks is token `q` of image `b`. -/
theorem blk_eq : blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r = at_ m c b q := by
  unfold blk at_ tok
  congr 1
  · exact funext fun k => in0 m c t r b q hb hq k
  · exact funext fun k => in1 m c t r b q hb hq k
  · exact funext fun k => in2 m c t r b q hb hq k
  · exact funext fun k => in3 m c t r b q hb hq k
  · exact funext fun k => in4 m c t r b q hb hq k
  · exact funext fun k => in5 m c t r b q hb hq k
  · exact funext fun x => funext fun k => in6 m c t r b q hb hq x k
  · exact funext fun x => funext fun k => in7 m c t r b q hb hq x k
  · exact funext fun x => funext fun k => in8 m c t r b q hb hq x k
  · exact side_eq _ _ _ (in9 m c t r b q hb hq) fun k => (in10 m c t r b q hb hq k).trans (congrArg (fun z => m ((c : Thread nD τ).loc main_arg0) (ix3 b q z)) (Fin.ext (by simp only; omega)))
  · exact side_eq _ _ _ (in11 m c t r b q hb hq) fun k => (in12 m c t r b q hb hq k).trans (congrArg (fun z => m ((c : Thread nD τ).loc main_arg0) (ix3 b q z)) (Fin.ext (by simp only; omega)))
  · exact side_eq _ _ _ (in13 m c t r b q hb hq) fun k => (in14 m c t r b q hb hq k).trans (congrArg (fun z => m ((c : Thread nD τ).loc main_arg0) (ix3 b q z)) (Fin.ext (by simp only; omega)))
  · exact funext fun x => funext fun k => in15 m c t r b q hb hq x k
  · exact funext fun k => in16 m c t r b q hb hq k
  · exact funext fun k => in17 m c t r b q hb hq k
  · exact funext fun k => in18 m c t r b q hb hq k

end Cert.Merge
-- ==== Proof.MergeArray.lean ====
module

public import proofs.«01_k».proof.Proof.MergeBlocks

@[expose] public section

/-!
# The merge's whole result, the kernel's and the reference's
-/

set_option maxRecDepth 16384

noncomputable section

namespace Cert.Merge

open Cert.Kernel3Ideal Cert.Kernel3Ideal.Gen Idealize.ShloMosaic Idealize.ShloMosaic.TcCoe

/-- The image and the token that row `n` of the result belongs to. -/
def img (n : Fin 16384) : Fin 8 := ⟨n.val / 2048, by omega⟩
def row (n : Fin 16384) : Fin 2048 := ⟨n.val % 2048, by omega⟩

variable (m : (ℓ : Loc nD τ sig) → Buf (Elt Ideal) ℓ) (c : Dev nD)

/-- Row `r` of what point `t` writes back is row `256 t + r` of the result. -/
theorem flushed_apply (t : Fin cfg0.N) (r : Fin 256) (j : Fin 2048) (n : Fin 16384) (hn : n.val = t.val * 256 + r.val) :
    (dats m 0 c).flushed 19 t (ix2 r j) = (at_ m c (img n) (row n)).out j := by
  rw [Value.flushed19_A, ← blk_eq m c t r (img n) (row n) (by simp only [img]; omega) (by simp only [row]; omega)]
  exact out19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r j

/-- The result, as a function of its row and column. -/
def G : Buf (Elt Ideal) ((c : Thread nD τ).loc main_v8) := fun i : S16384x2048.Idx => (at_ m c (img (i 0)) (row (i 0))).out (show Fin 2048 from i 1)

/-- The kernel's result, all of it. -/
theorem arr : (dats m 0 c).arrAt 19 cfg0.N = G m c :=
  (dats m 0 c).arrAt_eq_of_covers 19 (G m c) (by decide +kernel) fun t hf y => by
    have hy : y = ix2 (show Fin 256 from y 0) (show Fin 2048 from y 1) := ValueIdx.eq_ix2 (n0 := 256) (n1 := 2048) y
    have hr : (show Fin 256 from y 0).val < 256 := (show Fin 256 from y 0).isLt
    have ht : t.val < 64 := t.isLt
    have h := flushed_apply m c t (show Fin 256 from y 0) (show Fin 2048 from y 1) ⟨t.val * 256 + (show Fin 256 from y 0).val, by omega⟩ rfl
    rw [hy]
    refine h.trans ?_
    have e0 : ((((cfg0.win 19).blk t).view.emb (ix2 (show Fin 256 from y 0) (show Fin 2048 from y 1))) 0 : ℕ) = t.val * 256 + (show Fin 256 from y 0).val := by
      blk_simp [idx t]
    have e1 : ((((cfg0.win 19).blk t).view.emb (ix2 (show Fin 256 from y 0) (show Fin 2048 from y 1))) 1 : ℕ) = (show Fin 2048 from y 1).val := by
      blk_simp [idx t]
    exact congrArg₂ (fun (n : Fin 16384) (j : Fin 2048) => (at_ m c (img n) (row n)).out j) (Fin.ext e0.symm) (Fin.ext e1.symm)

/-- The reference's result, read at an index. -/
theorem ref_arr (x0 : S8x2048x15360.Idx → EReal) (x1 x2 x3 : S8x2048x1024.Idx → EReal) (x4 : S8x2048x2048.Idx → EReal)
    (x5 : S8x2048.Idx → EReal) (x6 : S1024.Idx → EReal) (x7 x8 x9 : S2x1024x2048.Idx → EReal)
    (x10 : S2x2048x2048.Idx → EReal) (x11 : S2048.Idx → EReal) (i : S16384x2048.Idx) :
    Cert.Reference3Ideal.Read.val_main_v88 (F := Ideal) x0 x1 x2 x3 x4 x5 x6 x7 x8 x9 x10 x11 i =
      (tok x0 x1 x2 x3 x4 x5 x6 x7 x8 x9 x10 x11 (img (i 0)) (row (i 0))).out (show Fin 2048 from i 1) := by
  have h := ref_out x0 x1 x2 x3 x4 x5 x6 x7 x8 x9 x10 x11 (img (i 0)) (row (i 0)) (show Fin 2048 from i 1)
  refine (Cert.Reference3Ideal.Read.val_main_v88_apply (F := Ideal) x0 x1 x2 x3 x4 x5 x6 x7 x8 x9 x10 x11 i).trans (Eq.trans ?_ h)
  have h0 : (i 0).val < 16384 := (i 0).isLt
  have h1 : (i 1).val < 2048 := (i 1).isLt
  refine congrArg _ (funext fun a => Fin.ext ?_)
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

end Cert.Merge
-- ==== Proof.MergeClaim.lean ====
module

public import proofs.«01_k».proof.Defs
public import proofs.«01_k».proof.Proof.MergeArray
public import proofs.«01_k».proof.Proof.Gen.Reference3Ideal.Run
public import Idealize.ShloMosaic.Lib.Claim

@[expose] public section

/-!
# The merge's claim: kernel and reference end with one and the same array
-/

noncomputable section

namespace Cert.Merge

open Idealize.ShloMosaic Idealize.ShloMosaic.TcCoe Idealize.SL.Sem

theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => G m c, (θ_run Cert.Kernel3Ideal.defs _ _).mono (fun r h c => ⟨(h c).1.trans (arr m c), (h c).2⟩)
    (Cert.Kernel3Ideal.Value.run_blocks (F := Ideal) m ρ), ?_⟩
  refine (θ_run Cert.Reference3Ideal.defs _ _).mono (fun r h c => ⟨(h c).1.trans ?_, (h c).2⟩)
    (Cert.Reference3Ideal.Value.run (F := Ideal) m' ρ')
  rw [Cert.Reference3Ideal.Read.val_main_v88_eq]
  obtain ⟨e0, e1, e2, e3, e4, e5, e6, e7, e8, e9, e10, e11⟩ := hagree c
  rw [e0, e1, e2, e3, e4, e5, e6, e7, e8, e9, e10, e11]
  exact funext fun i => ref_arr _ _ _ _ _ _ _ _ _ _ _ _ i

end Cert.Merge
-- ==== Proof.MergeFirstKernel.lean ====
module

public import proofs.«01_k».proof.Proof.MergeKernel
public import proofs.«01_k».proof.Proof.Gen.Kernel4Ideal.Value
public import Idealize.ShloMosaic.Lib.Pointwise

@[expose] public section

/-!
# The first layer's merge: what one grid point writes

Its text is the last layer's up to the gated residual, so the rows of the merged branches are read by the same lemmas.
-/

set_option maxRecDepth 16384

noncomputable section

namespace Cert.MergeFirst

open Cert.Kernel4Ideal Cert.Kernel4Ideal.Gen Idealize.ShloMosaic

variable (x0 x1 x2 : S256x1024.Idx → EReal) (x3 : S256x1024.Idx → EReal) (x4 : S256x1024.Idx → EReal) (x5 : S1x1024.Idx → EReal) (x6 x7 x8 : S1x1024x2048.Idx → EReal) (x9 x10 x11 x12 x13 x14 : S256x1024.Idx → EReal) (x15 : S1x2048x2048.Idx → EReal) (x16 : S256x2048.Idx → EReal) (x17 : S1x1x2048.Idx → EReal) (r : Fin 256)

theorem ker_resid (M : S256x2048.Idx → EReal) (hM : ∀ y, M (ix2 r y) = (Merge.blk x0 x1 x2 x3 x4 x5 x6 x7 x8 x9 x10 x11 x12 x13 x14 x15 x16 x17 (fun _ => 0) r).merged y) (j : Fin 2048) :
    k0_pay1 (F := Ideal) M x15 x16 x17 (ix2 r j) = (Merge.blk x0 x1 x2 x3 x4 x5 x6 x7 x8 x9 x10 x11 x12 x13 x14 x15 x16 x17 (fun _ => 0) r).resid j := by
  pointwise [k0_pay1]
  simp only [hM]
  rfl

theorem out18 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024x2048 .bf16) (harg7 : arg7.IsWhole) (arg8 : Memref sig .tc .vmem S1x1024x2048 .bf16) (harg8 : arg8.IsWhole) (arg9 : Memref sig .tc .vmem S1x1024x2048 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1x2048x2048 .bf16) (harg16 : arg16.IsWhole) (arg17 : Memref sig .tc .vmem S256x2048 .f32) (harg17 : arg17.IsWhole) (arg18 : Memref sig .tc .vmem S1x1x2048 .f32) (harg18 : arg18.IsWhole) (arg19 : Memref sig .tc .vmem S256x2048 .f32) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x2048 .bf16) (harg22 : arg22.IsWhole)
    (x0 : Vec Ideal S256x1024 .bf16) (x1 : Vec Ideal S256x1024 .bf16) (x2 : Vec Ideal S256x1024 .bf16) (x3 : Vec Ideal S256x1024 .f32) (x4 : Vec Ideal S256x1024 .bf16) (x5 : Vec Ideal S1x1024 .f32) (x6 : Vec Ideal S1x1024x2048 .bf16) (x7 : Vec Ideal S1x1024x2048 .bf16) (x8 : Vec Ideal S1x1024x2048 .bf16) (x9 : Vec Ideal S256x1024 .bf16) (x10 : Vec Ideal S256x1024 .bf16) (x11 : Vec Ideal S256x1024 .bf16) (x12 : Vec Ideal S256x1024 .bf16) (x13 : Vec Ideal S256x1024 .bf16) (x14 : Vec Ideal S256x1024 .bf16) (x15 : Vec Ideal S1x2048x2048 .bf16) (x16 : Vec Ideal S256x2048 .f32) (x17 : Vec Ideal S1x1x2048 .f32)   (r : Fin 256) (j : Fin 2048) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 (ix2 r j) = (Merge.blk x0 x1 x2 x3 x4 x5 x6 x7 x8 x9 x10 x11 x12 x13 x14 x15 x16 x17 (fun _ => 0) r).resid j := by
  unfold out0_A_18; rw [View.read_writes_junk_eq_canon]
  unfold kernelRun0_A; dsimp only
  sl_unfold_words
  rw [View.canon_unit_zero Merge.hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S256x1024) Merge.hz2, View.ld_unit_zero (S := S1x1024) Merge.hz2, View.ld_unit_zero (S := S256x2048) Merge.hz2, View.ld_unit_zero (S := S1x2048x2048) Merge.hz3, View.ld_unit_zero (S := S1x1x2048) Merge.hz3, View.readCov_unit_zero (S := S256x1024) _ Merge.hz2]
  rw [View.readCov_eq_canon_ld, View.ld_unit_zero (S := S256x2048) Merge.hz2]
  · exact ker_resid x0 x1 x2 x3 x4 x5 x6 x7 x8 x9 x10 x11 x12 x13 x14 x15 x16 x17 r _ (fun y => Merge.halves x0 x1 x2 x3 x4 x5 x6 x7 x8 x9 x10 x11 x12 x13 x14 x15 x16 x17 (fun _ => 0) (ix2 r y)) j
  · exact Merge.both _ _

end Cert.MergeFirst
-- ==== Proof.MergeFirstRef.lean ====
module

public import proofs.«01_k».proof.Proof.MergeRef
public import proofs.«01_k».proof.Proof.Gen.Reference4Ideal.Read
public import Idealize.ShloMosaic.Lib.Pointwise

@[expose] public section

/-!
# The first layer's merge: its reference is the last layer's, at the first layer's weights and before the last norm
-/

set_option maxRecDepth 16384

noncomputable section

namespace Cert.MergeFirst

open Idealize.ShloMosaic Cert.Reference4Ideal
open Cert.Merge (Tok)

/-- Both layers' weights replaced by the first layer's. -/
def first {N : ℕ} (w : (⟨3, ![2, N, 2048]⟩ : Shape).Idx → EReal) : (⟨3, ![2, N, 2048]⟩ : Shape).Idx → EReal :=
  fun i => w (ix3 0 (show Fin N from i 1) (show Fin 2048 from i 2))

/-- Token `r` of image `b` with the first layer's weights. No last norm is taken, so its weight does not matter. -/
def tok (x0 : S8x2048x15360.Idx → EReal) (x1 x2 x3 : S8x2048x1024.Idx → EReal) (x4 : S8x2048x2048.Idx → EReal)
    (x5 : S8x2048.Idx → EReal) (x6 : S1024.Idx → EReal) (x7 x8 x9 : S2x1024x2048.Idx → EReal)
    (x10 : S2x2048x2048.Idx → EReal) (b : Fin 8) (r : Fin 2048) : Tok :=
  Merge.tok x0 x1 x2 x3 x4 x5 x6 (first (N := 1024) x7) (first (N := 1024) x8) (first (N := 1024) x9) (first (N := 2048) x10) (fun _ => 0) b r

theorem w_na (x7 : S2x1024x2048.Idx → EReal) : Read.val_main_v19 (F := Ideal) x7 = Reference3Ideal.Read.val_main_v19 (F := Ideal) (first (N := 1024) x7) := by
  funext i
  obtain ⟨x, k, rfl⟩ : ∃ (x : Fin 1024) (k : Fin 2048), i = ix2 x k := ⟨i 0, i 1, eq_ix2 i⟩
  pointwise [Read.val_main_v17, Read.val_main_v18, Read.val_main_v19, Reference3Ideal.Read.val_main_v17, Reference3Ideal.Read.val_main_v18, Reference3Ideal.Read.val_main_v19]
  rfl

theorem w_four (x8 : S2x1024x2048.Idx → EReal) : Read.val_main_v23 (F := Ideal) x8 = Reference3Ideal.Read.val_main_v23 (F := Ideal) (first (N := 1024) x8) :=
  w_na x8

theorem w_ssd (x9 : S2x1024x2048.Idx → EReal) : Read.val_main_v42 (F := Ideal) x9 = Reference3Ideal.Read.val_main_v42 (F := Ideal) (first (N := 1024) x9) :=
  w_na x9

theorem w_out (x10 : S2x2048x2048.Idx → EReal) : Read.val_main_v69 (F := Ideal) x10 = Reference3Ideal.Read.val_main_v69 (F := Ideal) (first (N := 2048) x10) := by
  funext i
  obtain ⟨x, k, rfl⟩ : ∃ (x : Fin 2048) (k : Fin 2048), i = ix2 x k := ⟨i 0, i 1, eq_ix2 i⟩
  pointwise [Read.val_main_v67, Read.val_main_v68, Read.val_main_v69, Reference3Ideal.Read.val_main_v67, Reference3Ideal.Read.val_main_v68, Reference3Ideal.Read.val_main_v69]
  rfl

variable (x0 : S8x2048x15360.Idx → EReal) (x1 x2 x3 : S8x2048x1024.Idx → EReal) (x4 : S8x2048x2048.Idx → EReal)
    (x5 : S8x2048.Idx → EReal) (x6 : S1024.Idx → EReal) (x7 x8 x9 : S2x1024x2048.Idx → EReal)
    (x10 : S2x2048x2048.Idx → EReal)

/-- The two references' sums after the gated residual are one, operation by operation. -/
theorem resid_eq : Read.val_main_v74 (F := Ideal) x0 x1 x2 x3 x4 x5 x6 x7 x8 x9 x10
    = Reference3Ideal.Read.val_main_v74 (F := Ideal) x0 x1 x2 x3 x4 x5 x6 (first (N := 1024) x7) (first (N := 1024) x8) (first (N := 1024) x9) (first (N := 2048) x10) := by
  unfold Read.val_main_v74 Read.val_main_v73 Read.val_main_v70 Read.val_main_v66 Read.val_main_v65 Read.val_main_v58 Read.val_main_v57 Read.val_main_v50 Read.val_main_v43 Read.val_main_v24 Read.val_main_v20
  rw [w_na, w_four, w_ssd, w_out]
  rfl

theorem ref_resid (b : Fin 8) (r j : Fin 2048) : Read.val_main_v74 (F := Ideal) x0 x1 x2 x3 x4 x5 x6 x7 x8 x9 x10 (ix3 b r j)
    = (tok x0 x1 x2 x3 x4 x5 x6 x7 x8 x9 x10 b r).resid j :=
  (congrFun (resid_eq x0 x1 x2 x3 x4 x5 x6 x7 x8 x9 x10) (ix3 b r j)).trans (Merge.ref_resid _ _ _ _ _ _ _ _ _ _ _ _ b r j)

end Cert.MergeFirst
-- ==== Proof.MergeFirstBlocks.lean ====
module

public import proofs.«01_k».proof.Proof.MergeFirstKernel
public import proofs.«01_k».proof.Proof.MergeFirstRef
public import proofs.«01_k».proof.Proof.MergeBlocks
public import Idealize.ShloMosaic.Lib.Pipeline.ValueKit
public import Idealize.ShloMosaic.Lib.Claim

@[expose] public section

/-!
# The first layer's merge, its blocks: one grid point's blocks are one tile of 256 tokens of one image
-/

set_option maxRecDepth 16384

noncomputable section

namespace Cert.MergeFirst

open Cert.Kernel4Ideal Cert.Kernel4Ideal.Gen Idealize.ShloMosaic Idealize.ShloMosaic.TcCoe
open Cert.Merge (Tok tile swap side_eq)

theorem idx : ∀ t : Fin grid0.N,
    win0_0.index t = ![t.val, 0] ∧ win0_1.index t = ![t.val, 3] ∧ win0_2.index t = ![tile t.val, 0] ∧
    win0_3.index t = ![t.val, 0] ∧ win0_4.index t = ![t.val, 8] ∧ win0_5.index t = ![0, 0] ∧
    win0_6.index t = ![0, 0, 0] ∧ win0_7.index t = ![0, 0, 0] ∧ win0_8.index t = ![0, 0, 0] ∧
    win0_9.index t = ![t.val, 9] ∧ win0_10.index t = ![t.val, 10] ∧ win0_11.index t = ![t.val, 11] ∧
    win0_12.index t = ![t.val, 12] ∧ win0_13.index t = ![t.val, 13] ∧ win0_14.index t = ![t.val, 14] ∧
    win0_15.index t = ![0, 0, 0] ∧ win0_16.index t = ![t.val, 0] ∧ win0_17.index t = ![t.val / 8, 0, 0] ∧
    win0_18.index t = ![t.val, 0] := by
  decide +kernel

variable (m : (ℓ : Loc nD τ sig) → Buf (Elt Ideal) ℓ) (c : Dev nD)

/-- The token the arguments hold in row `r` of image `b`. -/
def at_ (b : Fin 8) (r : Fin 2048) : Tok :=
  tok (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b r

variable (t : Fin cfg0.N) (r : Fin 256) (b : Fin 8) (q : Fin 2048) (hb : b.val = t.val / 8) (hq : q.val = t.val % 8 * 256 + r.val)

include hb hq

theorem in0 (k : Fin 1024) : iblk m c 0 t (ix2 r k) = m ((c : Thread nD τ).loc main_arg1) (ix3 b q k) := by
  blk_ext! [iblk, V, idx t]

theorem in1 (k : Fin 1024) : iblk m c 1 t (ix2 r k) = m ((c : Thread nD τ).loc main_arg0) (ix3 b q ⟨3072 + k.val, by omega⟩) := by
  blk_ext! [iblk, V, idx t]

theorem in2 (k : Fin 1024) : iblk m c 2 t (ix2 r k) = m ((c : Thread nD τ).loc main_arg2) (ix3 b (swap q) k) := by
  blk_ext! [iblk, V, idx t, tile, swap] <;> split_ifs <;> omega

theorem in3 (k : Fin 1024) : iblk m c 3 t (ix2 r k) = m ((c : Thread nD τ).loc main_arg3) (ix3 b q k) := by
  blk_ext! [iblk, V, idx t]

theorem in4 (k : Fin 1024) : iblk m c 4 t (ix2 r k) = m ((c : Thread nD τ).loc main_arg0) (ix3 b q ⟨8192 + k.val, by omega⟩) := by
  blk_ext! [iblk, V, idx t]

theorem in5 (k : Fin 1024) : iblk m c 5 t (ix2 0 k) = m ((c : Thread nD τ).loc main_arg6) (ix1 k) := by
  blk_ext! [iblk, V, idx t]

theorem in6 (x : Fin 1024) (k : Fin 2048) : iblk m c 6 t (ix3 0 x k) = m ((c : Thread nD τ).loc main_arg7) (ix3 0 x k) := by
  blk_ext! [iblk, V, idx t]

theorem in7 (x : Fin 1024) (k : Fin 2048) : iblk m c 7 t (ix3 0 x k) = m ((c : Thread nD τ).loc main_arg8) (ix3 0 x k) := by
  blk_ext! [iblk, V, idx t]

theorem in8 (x : Fin 1024) (k : Fin 2048) : iblk m c 8 t (ix3 0 x k) = m ((c : Thread nD τ).loc main_arg9) (ix3 0 x k) := by
  blk_ext! [iblk, V, idx t]

theorem in9 (k : Fin 1024) : iblk m c 9 t (ix2 r k) = m ((c : Thread nD τ).loc main_arg0) (ix3 b q ⟨9216 + k.val, by omega⟩) := by
  blk_ext! [iblk, V, idx t]

theorem in10 (k : Fin 1024) : iblk m c 10 t (ix2 r k) = m ((c : Thread nD τ).loc main_arg0) (ix3 b q ⟨10240 + k.val, by omega⟩) := by
  blk_ext! [iblk, V, idx t]

theorem in11 (k : Fin 1024) : iblk m c 11 t (ix2 r k) = m ((c : Thread nD τ).loc main_arg0) (ix3 b q ⟨11264 + k.val, by omega⟩) := by
  blk_ext! [iblk, V, idx t]

theorem in12 (k : Fin 1024) : iblk m c 12 t (ix2 r k) = m ((c : Thread nD τ).loc main_arg0) (ix3 b q ⟨12288 + k.val, by omega⟩) := by
  blk_ext! [iblk, V, idx t]

theorem in13 (k : Fin 1024) : iblk m c 13 t (ix2 r k) = m ((c : Thread nD τ).loc main_arg0) (ix3 b q ⟨13312 + k.val, by omega⟩) := by
  blk_ext! [iblk, V, idx t]

theorem in14 (k : Fin 1024) : iblk m c 14 t (ix2 r k) = m ((c : Thread nD τ).loc main_arg0) (ix3 b q ⟨14336 + k.val, by omega⟩) := by
  blk_ext! [iblk, V, idx t]

theorem in15 (x k : Fin 2048) : iblk m c 15 t (ix3 0 x k) = m ((c : Thread nD τ).loc main_arg10) (ix3 0 x k) := by
  blk_ext! [iblk, V, idx t]

theorem in16 (k : Fin 2048) : iblk m c 16 t (ix2 r k) = m ((c : Thread nD τ).loc main_arg4) (ix3 b q k) := by
  blk_ext! [iblk, V, idx t]

theorem in17 (k : Fin 2048) : iblk m c 17 t (ix3 0 0 k) = m ((c : Thread nD τ).loc main_arg5) (ix2 b k) := by
  blk_ext! [iblk, V, idx t]

/-- Row `r` of point `t`'s blocks is token `q` of image `b`. -/
theorem blk_eq : Merge.blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun _ => 0) r = at_ m c b q := by
  unfold Merge.blk at_ tok Merge.tok
  congr 1
  · exact funext fun k => in0 m c t r b q hb hq k
  · exact funext fun k => in1 m c t r b q hb hq k
  · exact funext fun k => in2 m c t r b q hb hq k
  · exact funext fun k => in3 m c t r b q hb hq k
  · exact funext fun k => in4 m c t r b q hb hq k
  · exact funext fun k => in5 m c t r b q hb hq k
  · exact funext fun x => funext fun k => in6 m c t r b q hb hq x k
  · exact funext fun x => funext fun k => in7 m c t r b q hb hq x k
  · exact funext fun x => funext fun k => in8 m c t r b q hb hq x k
  · exact side_eq _ _ _ (in9 m c t r b q hb hq) fun k => (in10 m c t r b q hb hq k).trans (congrArg (fun z => m ((c : Thread nD τ).loc main_arg0) (ix3 b q z)) (Fin.ext (by simp only; omega)))
  · exact side_eq _ _ _ (in11 m c t r b q hb hq) fun k => (in12 m c t r b q hb hq k).trans (congrArg (fun z => m ((c : Thread nD τ).loc main_arg0) (ix3 b q z)) (Fin.ext (by simp only; omega)))
  · exact side_eq _ _ _ (in13 m c t r b q hb hq) fun k => (in14 m c t r b q hb hq k).trans (congrArg (fun z => m ((c : Thread nD τ).loc main_arg0) (ix3 b q z)) (Fin.ext (by simp only; omega)))
  · exact funext fun x => funext fun k => in15 m c t r b q hb hq x k
  · exact funext fun k => in16 m c t r b q hb hq k
  · exact funext fun k => in17 m c t r b q hb hq k

end Cert.MergeFirst
-- ==== Proof.MergeFirstArray.lean ====
module

public import proofs.«01_k».proof.Proof.MergeFirstBlocks
public import proofs.«01_k».proof.Proof.MergeArray

@[expose] public section

/-!
# The first layer's merge, its whole result, the kernel's and the reference's
-/

set_option maxRecDepth 16384

noncomputable section

namespace Cert.MergeFirst

open Cert.Kernel4Ideal Cert.Kernel4Ideal.Gen Idealize.ShloMosaic Idealize.ShloMosaic.TcCoe
open Cert.Merge (img row)

variable (m : (ℓ : Loc nD τ sig) → Buf (Elt Ideal) ℓ) (c : Dev nD)

/-- Row `r` of what point `t` writes back is row `256 t + r` of the result. -/
theorem flushed_apply (t : Fin cfg0.N) (r : Fin 256) (j : Fin 2048) (n : Fin 16384) (hn : n.val = t.val * 256 + r.val) :
    (dats m 0 c).flushed 18 t (ix2 r j) = (at_ m c (img n) (row n)).resid j := by
  rw [Value.flushed18_A, ← blk_eq m c t r (img n) (row n) (by simp only [img]; omega) (by simp only [row]; omega)]
  exact out18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r j

/-- The result, as a function of its row and column. -/
def G : Buf (Elt Ideal) ((c : Thread nD τ).loc main_v7) := fun i : S16384x2048.Idx => (at_ m c (img (i 0)) (row (i 0))).resid (show Fin 2048 from i 1)

/-- The kernel's result, all of it. -/
theorem arr : (dats m 0 c).arrAt 18 cfg0.N = G m c :=
  (dats m 0 c).arrAt_eq_of_covers 18 (G m c) (by decide +kernel) fun t hf y => by
    have hy : y = ix2 (show Fin 256 from y 0) (show Fin 2048 from y 1) := ValueIdx.eq_ix2 (n0 := 256) (n1 := 2048) y
    have hr : (show Fin 256 from y 0).val < 256 := (show Fin 256 from y 0).isLt
    have ht : t.val < 64 := t.isLt
    have h := flushed_apply m c t (show Fin 256 from y 0) (show Fin 2048 from y 1) ⟨t.val * 256 + (show Fin 256 from y 0).val, by omega⟩ rfl
    rw [hy]
    refine h.trans ?_
    have e0 : ((((cfg0.win 18).blk t).view.emb (ix2 (show Fin 256 from y 0) (show Fin 2048 from y 1))) 0 : ℕ) = t.val * 256 + (show Fin 256 from y 0).val := by
      blk_simp [idx t]
    have e1 : ((((cfg0.win 18).blk t).view.emb (ix2 (show Fin 256 from y 0) (show Fin 2048 from y 1))) 1 : ℕ) = (show Fin 2048 from y 1).val := by
      blk_simp [idx t]
    exact congrArg₂ (fun (n : Fin 16384) (j : Fin 2048) => (at_ m c (img n) (row n)).resid j) (Fin.ext e0.symm) (Fin.ext e1.symm)

/-- The reference's result, read at an index. -/
theorem ref_arr (x0 : S8x2048x15360.Idx → EReal) (x1 x2 x3 : S8x2048x1024.Idx → EReal) (x4 : S8x2048x2048.Idx → EReal)
    (x5 : S8x2048.Idx → EReal) (x6 : S1024.Idx → EReal) (x7 x8 x9 : S2x1024x2048.Idx → EReal)
    (x10 : S2x2048x2048.Idx → EReal) (i : S16384x2048.Idx) :
    Cert.Reference4Ideal.Read.val_main_v75 (F := Ideal) x0 x1 x2 x3 x4 x5 x6 x7 x8 x9 x10 i =
      (tok x0 x1 x2 x3 x4 x5 x6 x7 x8 x9 x10 (img (i 0)) (row (i 0))).resid (show Fin 2048 from i 1) := by
  have h := ref_resid x0 x1 x2 x3 x4 x5 x6 x7 x8 x9 x10 (img (i 0)) (row (i 0)) (show Fin 2048 from i 1)
  refine (Cert.Reference4Ideal.Read.val_main_v75_apply (F := Ideal) x0 x1 x2 x3 x4 x5 x6 x7 x8 x9 x10 i).trans (Eq.trans ?_ h)
  have h0 : (i 0).val < 16384 := (i 0).isLt
  have h1 : (i 1).val < 2048 := (i 1).isLt
  refine congrArg _ (funext fun a => Fin.ext ?_)
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

end Cert.MergeFirst
-- ==== Proof.MergeFirstClaim.lean ====
module

public import proofs.«01_k».proof.Defs
public import proofs.«01_k».proof.Proof.MergeFirstArray
public import proofs.«01_k».proof.Proof.Gen.Reference4Ideal.Run
public import Idealize.ShloMosaic.Lib.Claim

@[expose] public section

/-!
# The first layer's merge, its claim: kernel and reference end with one and the same array
-/

noncomputable section

namespace Cert.MergeFirst

open Idealize.ShloMosaic Idealize.ShloMosaic.TcCoe Idealize.SL.Sem

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => G m c, (θ_run Cert.Kernel4Ideal.defs _ _).mono (fun r h c => ⟨(h c).1.trans (arr m c), (h c).2⟩)
    (Cert.Kernel4Ideal.Value.run_blocks (F := Ideal) m ρ), ?_⟩
  refine (θ_run Cert.Reference4Ideal.defs _ _).mono (fun r h c => ⟨(h c).1.trans ?_, (h c).2⟩)
    (Cert.Reference4Ideal.Value.run (F := Ideal) m' ρ')
  rw [Cert.Reference4Ideal.Read.val_main_v75_eq]
  obtain ⟨e0, e1, e2, e3, e4, e5, e6, e7, e8, e9, e10⟩ := hagree c
  rw [e0, e1, e2, e3, e4, e5, e6, e7, e8, e9, e10]
  exact funext fun i => ref_arr _ _ _ _ _ _ _ _ _ _ _ i

end Cert.MergeFirst
-- ==== Proof.AdaRef.lean ====
module

public import proofs.«01_k».proof.Proof.Merge
public import proofs.«01_k».proof.Proof.Gen.Reference5Ideal.Read
public import Idealize.ShloMosaic.Lib.Pointwise

@[expose] public section

/-!
# The modulation's matmul, as a formula, and its reference

Row `n` of the result is the `n`-th conditioning vector through `z * logistic z` and the first layer's weight: eight of
them are the images', the ninth is the context's, and those after it are zero.
-/

noncomputable section

namespace Cert.Ada

open Cert.Reference5Ideal Cert.Reference5Ideal.Read Idealize.ShloMosaic
open Cert.Merge (silu)

variable (x0 : S8x2048.Idx → EReal) (x1 : S2048.Idx → EReal) (x2 : S2x2048x6144.Idx → EReal)

/-- Row `n` of the conditioning vectors, filled up with zeros. -/
def cond (n : ℕ) (k : Fin 2048) : EReal :=
  if h : n < 8 then x0 (ix2 ⟨n, h⟩ k) else if n < 9 then x1 (ix1 k) else 0

/-- Entry `j` of row `n` of the product. -/
def prod (n : ℕ) (j : Fin 6144) : EReal := ∑ k, silu (cond x0 x1 n k) * x2 (ix3 0 k j)

/-- Below the conditioning vectors the product is zero. -/
theorem prod_zero (n : ℕ) (hn : ¬ n < 9) (j : Fin 6144) : prod x0 x1 x2 n j = 0 :=
  Finset.sum_eq_zero fun k _ => by
    have h : cond x0 x1 n k = 0 := by unfold cond; rw [dif_neg (by omega), if_neg hn]
    rw [h, silu, zero_mul, zero_mul]

theorem ref_silu (n : Fin 9) (k : Fin 2048) : val_main_v2 (F := Ideal) x0 x1 (ix2 n k) = silu (cond x0 x1 n.val k) := by
  have hn := n.isLt
  pointwise [val_main_v0, val_main_v1, val_main_v2, val_main_call0_v0, val_main_call0_v1, val_main_call0_v2, val_main_call0_v3, val_main_call0_v4, val_main_call0_v5, val_main_call0_cst, val_main_call0_cst_0]
  have e : cond x0 x1 n.val k = if h : n.val < 8 then x0 (ix2 ⟨n.val, h⟩ k) else x1 (ix1 k) := by
    unfold cond
    rw [if_pos hn]
  rw [e]
  rfl

theorem ref_prod (n : Fin 9) (j : Fin 6144) : val_main_v5 (F := Ideal) x0 x1 x2 (ix2 n j) = prod x0 x1 x2 n.val j := by
  pointwise [val_main_v3, val_main_v4, val_main_v5]
  simp only [ref_silu]
  rfl

theorem ref_out (n : Fin 16) (j : Fin 6144) : val_main_v7 (F := Ideal) x0 x1 x2 (ix2 n j) = prod x0 x1 x2 n.val j := by
  have hn := n.isLt
  pointwise [val_main_v6, val_main_v7, val_main_cst]
  split_ifs with h
  · exact ref_prod x0 x1 x2 ⟨n.val, h⟩ j
  · exact (prod_zero x0 x1 x2 n.val h j).symm

end Cert.Ada
-- ==== Proof.AdaArray.lean ====
module

public import proofs.«01_k».proof.Proof.AdaRef
public import proofs.«01_k».proof.Proof.MergeKernel
public import proofs.«01_k».proof.Proof.Gen.Kernel5Ideal.Value
public import Idealize.ShloMosaic.Lib.Pointwise
public import Idealize.ShloMosaic.Lib.Pipeline.ValueKit
public import Idealize.ShloMosaic.Lib.Claim

@[expose] public section

/-!
# The modulation's matmul: the kernel's whole result

One grid point takes all the rows and 1024 columns of the weight.
-/

set_option maxRecDepth 16384

noncomputable section

namespace Cert.Ada

open Cert.Kernel5Ideal Cert.Kernel5Ideal.Gen Idealize.ShloMosaic Idealize.ShloMosaic.TcCoe
open Cert.Merge (silu)

theorem idx : ∀ t : Fin grid0.N,
    win0_0.index t = ![0, 0] ∧ win0_1.index t = ![0, 0, t.val] ∧ win0_2.index t = ![0, t.val] := by
  decide +kernel

theorem ker_prod (a : S16x2048.Idx → EReal) (w : S1x2048x1024.Idx → EReal) (n : Fin 16) (j : Fin 1024) :
    out0_2 (F := Ideal) a w (ix2 n j) = ∑ k : Fin 2048, a (ix2 n k) * w (ix3 0 k j) := by
  unfold out0_2
  rw [View.canon_unit_zero Merge.hz2, View.ld_unit_zero (S := S16x2048) Merge.hz2, View.ld_unit_zero (S := S1x2048x1024) Merge.hz3]
  pointwise [k0_pay1]

variable (m : (ℓ : Loc nD τ sig) → Buf (Elt Ideal) ℓ) (c : Dev nD)

/-- `z * logistic z` entry by entry, as the host computes it. -/
def siluRows (z : (⟨S16x2048, .f32⟩ : BufTy).Contents (Elt Ideal)) : (⟨S16x2048, .f32⟩ : BufTy).Contents (Elt Ideal) :=
  mulf z (Host.divf (broadcastInDim S16x2048 ![] bcast_S_S16x2048 (constant (F := Ideal) S_ .f32 0x3F800000#32))
    (addf (broadcastInDim S16x2048 ![] bcast_S_S16x2048 (constant (F := Ideal) S_ .f32 0x3F800000#32)) (Host.exp (Host.negf z))))

theorem siluRows_apply (z : (⟨S16x2048, .f32⟩ : BufTy).Contents (Elt Ideal)) (n : Fin 16) (k : Fin 2048) : siluRows z (ix2 n k) = silu (z (ix2 n k)) := by
  unfold siluRows
  pointwise
  rfl

/-- The conditioning vectors filled up with zero rows, as the host lays them out. -/
def rows (x0 : (⟨S8x2048, .f32⟩ : BufTy).Contents (Elt Ideal)) (x1 : (⟨S2048, .f32⟩ : BufTy).Contents (Elt Ideal)) : (⟨S16x2048, .f32⟩ : BufTy).Contents (Elt Ideal) :=
  concatenate S16x2048 0 [⟨S8x2048, x0⟩, ⟨S1x2048, broadcastInDim S1x2048 ![1] bcast_S2048_S1x2048_1 x1⟩,
    ⟨S7x2048, broadcastInDim S7x2048 ![] bcast_S_S7x2048 (constant (F := Ideal) S_ .f32 0x00000000#32)⟩] concatenates_S8x2048_S1x2048_S7x2048_S16x2048_d0

theorem rows_apply (x0 : S8x2048.Idx → EReal) (x1 : S2048.Idx → EReal) (n : Fin 16) (k : Fin 2048) : rows x0 x1 (ix2 n k) = cond x0 x1 n.val k := by
  have hn := n.isLt
  unfold rows cond
  pointwise
  exact dite_congr rfl (fun _ => rfl) fun h => if_congr (by omega) rfl rfl

/-- What the host's second stretch of operations leaves for the call, from the rows it finds. -/
theorem silu_ops (σ : Valuation τ sig (Elt Ideal)) :
    StableHlo.after (hostOps0_1 (F := Ideal)) σ (Proc.devRef .tc main_v3) = siluRows (σ (Proc.devRef .tc main_v2)) := by
  simp only [hostOps0_1, StableHlo.after_cons, StableHlo.after_nil]
  after_results_simp
  rfl

theorem rows_ops : StableHlo.after (hostOps0 (F := Ideal)) (fun b => m (c, b)) (Proc.devRef .tc main_v2)
    = rows (m ((c : Thread nD τ).loc main_arg0)) (m ((c : Thread nD τ).loc main_arg1)) := by
  simp only [hostOps0, StableHlo.after_cons, StableHlo.after_nil]
  after_results_simp
  rfl

theorem V_eq : V m c main_v3 = StableHlo.after (hostOps0_1 (F := Ideal)) (StableHlo.after (hostOps0 (F := Ideal)) (fun b => m (c, b))) (Proc.devRef .tc main_v3) := by
  simp only [V]
  rfl

theorem V_rows : V m c main_v3 = siluRows (rows (m ((c : Thread nD τ).loc main_arg0)) (m ((c : Thread nD τ).loc main_arg1))) :=
  (V_eq m c).trans <| (silu_ops (StableHlo.after (hostOps0 (F := Ideal)) (fun b => m (c, b)))).trans (congrArg siluRows (rows_ops m c))

/-- The rows the host passes to the call. -/
theorem in0 (t : Fin cfg0.N) (n : Fin 16) (k : Fin 2048) :
    iblk m c 0 t (ix2 n k) = silu (cond (m ((c : Thread nD τ).loc main_arg0)) (m ((c : Thread nD τ).loc main_arg1)) n.val k) := by
  have e : (win0_0.blk t).view.emb (ix2 n k) = ix2 n k := by
    funext a; apply Fin.ext
    match a with
    | ⟨0, _⟩ => blk_simp [idx t]
    | ⟨1, _⟩ => blk_simp [idx t]
  show V m c main_v3 ((win0_0.blk t).view.emb (ix2 n k)) = _
  rw [e, V_rows, siluRows_apply, rows_apply]

theorem in1 (t : Fin cfg0.N) (k : Fin 2048) (q : Fin 1024) (j : Fin 6144) (hj : j.val = t.val * 1024 + q.val) :
    iblk m c 1 t (ix3 0 k q) = m ((c : Thread nD τ).loc main_arg2) (ix3 0 k j) := by
  blk_ext! [iblk, V, idx t]

/-- The result, as a function of its row and column. -/
def G : Buf (Elt Ideal) ((c : Thread nD τ).loc main_v4) := fun i : S16x6144.Idx =>
  prod (m ((c : Thread nD τ).loc main_arg0)) (m ((c : Thread nD τ).loc main_arg1)) (m ((c : Thread nD τ).loc main_arg2)) (i 0).val (show Fin 6144 from i 1)

/-- What point `t` writes back are the columns from `1024 t` on. -/
theorem flushed_apply (t : Fin cfg0.N) (n : Fin 16) (q : Fin 1024) (j : Fin 6144) (hj : j.val = t.val * 1024 + q.val) :
    (dats m 0 c).flushed 2 t (ix2 n q) = prod (m ((c : Thread nD τ).loc main_arg0)) (m ((c : Thread nD τ).loc main_arg1)) (m ((c : Thread nD τ).loc main_arg2)) n.val j := by
  rw [Value.flushed2]
  refine (ker_prod (iblk m c 0 t) (iblk m c 1 t) n q).trans (Finset.sum_congr rfl fun k _ => ?_)
  rw [in0 m c t n k, in1 m c t k q j hj]

/-- The kernel's result, all of it. -/
theorem arr : (dats m 0 c).arrAt 2 cfg0.N = G m c :=
  (dats m 0 c).arrAt_eq_of_covers 2 (G m c) (by decide +kernel) fun t hf y => by
    have hy : y = ix2 (show Fin 16 from y 0) (show Fin 1024 from y 1) := ValueIdx.eq_ix2 (n0 := 16) (n1 := 1024) y
    have hr : (show Fin 1024 from y 1).val < 1024 := (show Fin 1024 from y 1).isLt
    have ht : t.val < 6 := t.isLt
    have h := flushed_apply m c t (show Fin 16 from y 0) (show Fin 1024 from y 1) ⟨t.val * 1024 + (show Fin 1024 from y 1).val, by omega⟩ rfl
    rw [hy]
    refine h.trans ?_
    have e0 : ((((cfg0.win 2).blk t).view.emb (ix2 (show Fin 16 from y 0) (show Fin 1024 from y 1))) 0 : ℕ) = (show Fin 16 from y 0).val := by
      blk_simp [idx t]
    have e1 : ((((cfg0.win 2).blk t).view.emb (ix2 (show Fin 16 from y 0) (show Fin 1024 from y 1))) 1 : ℕ) = t.val * 1024 + (show Fin 1024 from y 1).val := by
      blk_simp [idx t]
    exact congrArg₂ (fun (n : ℕ) (j : Fin 6144) => prod _ _ _ n j) e0.symm (Fin.ext e1.symm)

end Cert.Ada
-- ==== Proof.AdaClaim.lean ====
module

public import proofs.«01_k».proof.Defs
public import proofs.«01_k».proof.Proof.AdaArray
public import proofs.«01_k».proof.Proof.Gen.Reference5Ideal.Run
public import Idealize.ShloMosaic.Lib.Claim

@[expose] public section

/-!
# The modulation's matmul, its claim: kernel and reference end with one and the same array
-/

noncomputable section

namespace Cert.Ada

open Idealize.ShloMosaic Idealize.ShloMosaic.TcCoe Idealize.SL.Sem

theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => G m c, (θ_run Cert.Kernel5Ideal.defs _ _).mono (fun r h c => ⟨(h c).1.trans (arr m c), (h c).2⟩)
    (Cert.Kernel5Ideal.Value.run_blocks (F := Ideal) m ρ), ?_⟩
  refine (θ_run Cert.Reference5Ideal.defs _ _).mono (fun r h c => ⟨(h c).1.trans ?_, (h c).2⟩)
    (Cert.Reference5Ideal.Value.run (F := Ideal) m' ρ')
  rw [Cert.Reference5Ideal.Read.val_main_v7_eq]
  obtain ⟨e0, e1, e2⟩ := hagree c
  rw [e0, e1, e2]
  exact funext fun i => (congrArg _ (ValueIdx.eq_ix2 (n0 := 16) (n1 := 6144) i)).trans (ref_out _ _ _ (i 0) (i 1))

end Cert.Ada
-- ==== Proof.lean ====
module

public import proofs.«01_k».proof.Defs
public import proofs.«01_k».proof.Proof.Frames
public import proofs.«01_k».proof.Proof.CtxClaim
public import proofs.«01_k».proof.Proof.InprojClaim
public import proofs.«01_k».proof.Proof.MergeClaim
public import proofs.«01_k».proof.Proof.MergeFirstClaim
public import proofs.«01_k».proof.Proof.AdaClaim

@[expose] public section

/-!
# The claims, put together
-/

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts,
  Cert.Frames.kernel, Cert.Frames.kernelIdeal, Cert.Frames.kernelIdeal_finite, Cert.Frames.referenceIdeal, Cert.Frames.referenceIdeal_finite,
  Cert.Frames.kernel2, Cert.Frames.kernel2Ideal, Cert.Frames.reference2Ideal,
  Cert.Frames.kernel3, Cert.Frames.kernel3Ideal, Cert.Frames.reference3Ideal,
  Cert.Frames.kernel4, Cert.Frames.kernel4Ideal, Cert.Frames.reference4Ideal,
  Cert.Frames.kernel5, Cert.Frames.kernel5Ideal, Cert.Frames.reference5Ideal,
  trivial, Cert.Ctx.algebraic, trivial, Cert.Inproj.algebraic, trivial, Cert.Merge.algebraic, trivial, Cert.MergeFirst.algebraic, trivial, Cert.Ada.algebraic⟩

end Cert.Proof

end
